-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v104_0)) (v1 : (c : Dev Cert.Kernel3Ideal.nD) → Buf (Elt Ideal) ((c.tc : Thread Cert.Kernel3Ideal.nD Cert.Kernel3Ideal.τ).loc Cert.Kernel3Ideal.main_v104_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v104_0) = v0 c
          ∧ r.2.mem ((c.tc : Thread Cert.Kernel3Ideal.nD Cert.Kernel3Ideal.τ).loc Cert.Kernel3Ideal.main_v104_4) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S1 : Shape := ⟨1, ![1]⟩
abbrev S4x4096x8x64 : Shape := ⟨4, ![4, 4096, 8, 64]⟩
abbrev S4x4096x2x64 : Shape := ⟨4, ![4, 4096, 2, 64]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  bcast_S_S4x4096x2x64 : S_.BroadcastsInDim S4x4096x2x64 (![] : Fin 0 → Fin S4x4096x2x64.rank)
  reducesTo_S4x4096x2x64_S_d0_1_2_3 : S4x4096x2x64.ReducesTo [0, 1, 2, 3] S_

variable [Facts]

def fn {F : FTy → Type} [FloatOps F] (main_arg0 : FVec F S1 .f32) (main_arg1 : FVec F S4x4096x8x64 .f32) (main_arg2 : FVec F S4x4096x2x64 .f32) (main_arg3 : FVec F S4x4096x2x64 .f32) : IVec S_ 1 :=
  let main_cst : FVec F S_ .f32 := constant S_ .f32 0x7F800000#32
  let main_v0 : FVec F S_ .f32 := Host.negf main_cst
  let main_v1 : FVec F S1 .f32 := broadcastInDim S1 ![] bcast_S_S1 main_v0
  let main_v2 : IVec S1 1 := cmpf .ogt main_arg0 main_v1
  let main_c : IVec S_ 1 := constantI S_ 1 1#1
  let main_v3 : IVec S_ 1 := (fun x v => Host.reduce IntOp.andi x v reducesTo_S1_S_d0 h_S_) main_v2 main_c
  let main_v4 : FVec F S4x4096x8x64 .f32 := Host.absf main_arg1
  let main_cst_0 : FVec F S_ .f32 := constant S_ .f32 0x7F800000#32
  let main_v5 : FVec F S4x4096x8x64 .f32 := broadcastInDim S4x4096x8x64 ![] bcast_S_S4x4096x8x64 main_cst_0
  let main_v6 : IVec S4x4096x8x64 1 := cmpf .olt main_v4 main_v5
  let main_c_1 : IVec S_ 1 := constantI S_ 1 1#1
  let main_v7 : IVec S_ 1 := (fun x v => Host.reduce IntOp.andi x v reducesTo_S4x4096x8x64_S_d0_1_2_3 h_S_) main_v6 main_c_1
  let main_v8 : IVec S_ 1 := andi main_v3 main_v7
  let main_v9 : FVec F S4x4096x2x64 .f32 := Host.absf main_arg2
  let main_cst_2 : FVec F S_ .f32 := constant S_ .f32 0x7F800000#32
  let main_v10 : FVec F S4x4096x2x64 .f32 := broadcastInDim S4x4096x2x64 ![] bcast_S_S4x4096x2x64 main_cst_2
  let main_v11 : IVec S4x4096x2x64 1 := cmpf .olt main_v9 main_v10
  let main_c_3 : IVec S_ 1 := constantI S_ 1 1#1
  let main_v12 : IVec S_ 1 := (fun x v => Host.reduce IntOp.andi x v reducesTo_S4x4096x2x64_S_d0_1_2_3 h_S_) main_v11 main_c_3
  let main_v13 : IVec S_ 1 := andi main_v8 main_v12
  main_v13
-- ==== Kernel.lean ====
abbrev S1 : Shape := ⟨1, ![1]⟩
abbrev S4x4096x8x64 : Shape := ⟨4, ![4, 4096, 8, 64]⟩
abbrev S4x4096x2x64 : Shape := ⟨4, ![4, 4096, 2, 64]⟩
abbrev S16384x512 : Shape := ⟨2, ![16384, 512]⟩
abbrev S16384x2x64 : Shape := ⟨3, ![16384, 2, 64]⟩
abbrev S2x16384x64 : Shape := ⟨3, ![2, 16384, 64]⟩
abbrev S2x16384x128 : Shape := ⟨3, ![2, 16384, 128]⟩
abbrev S32x512x2x64 : Shape := ⟨4, ![32, 512, 2, 64]⟩
abbrev S2x32x64x512 : Shape := ⟨4, ![2, 32, 64, 512]⟩
abbrev S_ : Shape := ⟨0, ![]⟩
abbrev S2x32x128x512 : Shape := ⟨4, ![2, 32, 128, 512]⟩
abbrev S2048x256 : Shape := ⟨2, ![2048, 256]⟩
abbrev S1x4096x128 : Shape := ⟨3, ![1, 4096, 128]⟩
abbrev S1x8x128x512 : Shape := ⟨4, ![1, 8, 128, 512]⟩
abbrev S8x1024x128 : Shape := ⟨3, ![8, 1024, 128]⟩
abbrev S8x1x1024 : Shape := ⟨3, ![8, 1, 1024]⟩
abbrev S8x128x1024 : Shape := ⟨3, ![8, 128, 1024]⟩
abbrev S2x512x1024 : Shape := ⟨3, ![2, 512, 1024]⟩
abbrev S256x128 : Shape := ⟨2, ![256, 128]⟩
abbrev S1x256x128 : Shape := ⟨3, ![1, 256, 128]⟩
abbrev S1x512x128 : Shape := ⟨3, ![1, 512, 128]⟩
abbrev S512x128 : Shape := ⟨2, ![512, 128]⟩
abbrev S512x256 : Shape := ⟨2, ![512, 256]⟩
abbrev S1x1x256 : Shape := ⟨3, ![1, 1, 256]⟩
abbrev S1x256 : Shape := ⟨2, ![1, 256]⟩
abbrev S1x512x256 : Shape := ⟨3, ![1, 512, 256]⟩
abbrev S1x1024 : Shape := ⟨2, ![1, 1024]⟩
abbrev S256 : Shape := ⟨1, ![256]⟩
abbrev S1x1x1024 : Shape := ⟨3, ![1, 1, 1024]⟩
abbrev S1x128x256 : Shape := ⟨3, ![1, 128, 256]⟩
abbrev S128x256 : Shape := ⟨2, ![128, 256]⟩
abbrev S1x1x128x512 : Shape := ⟨4, ![1, 1, 128, 512]⟩
abbrev S128x512 : Shape := ⟨2, ![128, 512]⟩
abbrev S1x128x1024 : Shape := ⟨3, ![1, 128, 1024]⟩
abbrev S128x1024 : Shape := ⟨2, ![128, 1024]⟩
abbrev S64x1024 : Shape := ⟨2, ![64, 1024]⟩
abbrev S64x256 : Shape := ⟨2, ![64, 256]⟩

abbrev nBuf : Space → Nat
  | .hbm => 16
  | .vmem => 12
  | .smem => 1
  | _ => 0

abbrev bufTy : (tb : Table) → Fin (tcTables nBuf tb) → BufTy
  | .hbm, ⟨0, _⟩ => ⟨S1, .f32⟩
  | .hbm, ⟨1, _⟩ => ⟨S4x4096x8x64, .f32⟩
  | .hbm, ⟨2, _⟩ => ⟨S4x4096x2x64, .f32⟩
  | .hbm, ⟨3, _⟩ => ⟨S4x4096x2x64, .f32⟩
  | .hbm, ⟨4, _⟩ => ⟨S16384x512, .f32⟩
  | .hbm, ⟨5, _⟩ => ⟨S16384x2x64, .f32⟩
  | .hbm, ⟨6, _⟩ => ⟨S2x16384x64, .f32⟩
  | .hbm, ⟨7, _⟩ => ⟨S2x16384x128, .f32⟩
  | .hbm, ⟨8, _⟩ => ⟨S2x16384x128, .bf16⟩
  | .hbm, ⟨9, _⟩ => ⟨S32x512x2x64, .f32⟩
  | .hbm, ⟨10, _⟩ => ⟨S2x32x64x512, .f32⟩
  | .hbm, ⟨11, _⟩ => ⟨S_, .f32⟩
  | .hbm, ⟨12, _⟩ => ⟨S2x32x64x512, .f32⟩
  | .hbm, ⟨13, _⟩ => ⟨S2x32x128x512, .f32⟩
  | .hbm, ⟨14, _⟩ => ⟨S2x32x128x512, .bf16⟩
  | .hbm, ⟨15, _⟩ => ⟨S16384x512, .bf16⟩
  | .local _ .vmem, ⟨0, _⟩ => ⟨S2048x256, .f32⟩
  | .local _ .vmem, ⟨1, _⟩ => ⟨S2048x256, .f32⟩
  | .local _ .vmem, ⟨2, _⟩ => ⟨S1x4096x128, .bf16⟩
  | .local _ .vmem, ⟨3, _⟩ => ⟨S1x4096x128, .bf16⟩
  | .local _ .vmem, ⟨4, _⟩ => ⟨S1x8x128x512, .bf16⟩
  | .local _ .vmem, ⟨5, _⟩ => ⟨S1x8x128x512, .bf16⟩
  | .local _ .vmem, ⟨6, _⟩ => ⟨S2048x256, .bf16⟩
  | .local _ .vmem, ⟨7, _⟩ => ⟨S2048x256, .bf16⟩
  | .local _ .vmem, ⟨8, _⟩ => ⟨S8x1024x128, .bf16⟩
  | .local _ .vmem, ⟨9, _⟩ => ⟨S8x1x1024, .f32⟩
  | .local _ .vmem, ⟨10, _⟩ => ⟨S8x128x1024, .f32⟩
  | .local _ .vmem, ⟨11, _⟩ => ⟨S2x512x1024, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 2], ![false, false, false]⟩

def k0_mult1 : BitVec 32 :=
  let c0_i32 : BitVec 32 := 0#32
  c0_i32
def k0_mult2 : BitVec 32 :=
  let c0_i32_258 : BitVec 32 := 0#32
  c0_i32_258
def k0_mult3 : BitVec 32 :=
  let c0_i32_271 : BitVec 32 := 0#32
  c0_i32_271
def k0_mult4 : BitVec 32 :=
  let c0_i32_284 : BitVec 32 := 0#32
  c0_i32_284
@[reducible] def k0_t1_loop : Scf.Loop 32 :=
  let c0_i32_358 : BitVec 32 := 0#32
  let c8_i32_359 : BitVec 32 := 8#32
  let v607 : BitVec 32 := Scalar.addi c0_i32_358 c8_i32_359
  let c1_i32_360 : BitVec 32 := 1#32
  ⟨c0_i32_358, v607, c1_i32_360⟩
def k0_mult5 (k0_t1 : Fin k0_t1_loop.trips) : BitVec 32 :=
  let c0_i32_358 : BitVec 32 := 0#32
  let c1_i32_360 : BitVec 32 := 1#32
  let arg12 : BitVec 32 := Scf.iv c0_i32_358 c1_i32_360 k0_t1
  let c512_i32 : BitVec 32 := 512#32
  let v718 : BitVec 32 := Scalar.muli arg12 c512_i32
  v718
def k0_off1 (k0_t1 : Fin k0_t1_loop.trips) : Fin 3 → Nat :=
  let c0_473 : Index := 0#32
  let c0_i32_358 : BitVec 32 := 0#32
  let c1_i32_360 : BitVec 32 := 1#32
  let arg12 : BitVec 32 := Scf.iv c0_i32_358 c1_i32_360 k0_t1
  let c512_i32 : BitVec 32 := 512#32
  let v718 : BitVec 32 := Scalar.muli arg12 c512_i32
  let v719 : BitVec 32 := v718
  let v720 : Index := Scalar.indexCast v719
  let c0_474 : Index := 0#32
  ![0, v720.toNat, 0]
def k0_mult6 (k0_t1 : Fin k0_t1_loop.trips) : BitVec 32 :=
  let c0_i32_358 : BitVec 32 := 0#32
  let c1_i32_360 : BitVec 32 := 1#32
  let arg12 : BitVec 32 := Scf.iv c0_i32_358 c1_i32_360 k0_t1
  let c512_i32_480 : BitVec 32 := 512#32
  let v728 : BitVec 32 := Scalar.muli arg12 c512_i32_480
  v728
def k0_mult7 (k0_t1 : Fin k0_t1_loop.trips) : BitVec 32 :=
  let c0_i32_358 : BitVec 32 := 0#32
  let c1_i32_360 : BitVec 32 := 1#32
  let arg12 : BitVec 32 := Scf.iv c0_i32_358 c1_i32_360 k0_t1
  let c512_i32_488 : BitVec 32 := 512#32
  let v738 : BitVec 32 := Scalar.muli arg12 c512_i32_488
  v738
def k0_mult8 (k0_t1 : Fin k0_t1_loop.trips) : BitVec 32 :=
  let c0_i32_358 : BitVec 32 := 0#32
  let c1_i32_360 : BitVec 32 := 1#32
  let arg12 : BitVec 32 := Scf.iv c0_i32_358 c1_i32_360 k0_t1
  let c512_i32_496 : BitVec 32 := 512#32
  let v748 : BitVec 32 := Scalar.muli arg12 c512_i32_496
  v748
@[reducible] def k0_t2_loop : Scf.Loop 32 :=
  let c0_i32_366 : BitVec 32 := 0#32
  let c8_i32_367 : BitVec 32 := 8#32
  let v613 : BitVec 32 := Scalar.addi c0_i32_366 c8_i32_367
  let c1_i32_368 : BitVec 32 := 1#32
  ⟨c0_i32_366, v613, c1_i32_368⟩
def k0_mult9 (k0_t2 : Fin k0_t2_loop.trips) : BitVec 32 :=
  let c0_i32_366 : BitVec 32 := 0#32
  let c1_i32_368 : BitVec 32 := 1#32
  let arg12 : BitVec 32 := Scf.iv c0_i32_366 c1_i32_368 k0_t2
  let c512_i32 : BitVec 32 := 512#32
  let v718 : BitVec 32 := Scalar.muli arg12 c512_i32
  v718
def k0_off2 (k0_t2 : Fin k0_t2_loop.trips) : Fin 3 → Nat :=
  let c0_473 : Index := 0#32
  let c0_i32_366 : BitVec 32 := 0#32
  let c1_i32_368 : BitVec 32 := 1#32
  let arg12 : BitVec 32 := Scf.iv c0_i32_366 c1_i32_368 k0_t2
  let c512_i32 : BitVec 32 := 512#32
  let v718 : BitVec 32 := Scalar.muli arg12 c512_i32
  let v719 : BitVec 32 := v718
  let v720 : Index := Scalar.indexCast v719
  let c0_474 : Index := 0#32
  ![0, v720.toNat, 0]
def k0_mult10 (k0_t2 : Fin k0_t2_loop.trips) : BitVec 32 :=
  let c0_i32_366 : BitVec 32 := 0#32
  let c1_i32_368 : BitVec 32 := 1#32
  let arg12 : BitVec 32 := Scf.iv c0_i32_366 c1_i32_368 k0_t2
  let c512_i32_480 : BitVec 32 := 512#32
  let v728 : BitVec 32 := Scalar.muli arg12 c512_i32_480
  v728
def k0_mult11 (k0_t2 : Fin k0_t2_loop.trips) : BitVec 32 :=
  let c0_i32_366 : BitVec 32 := 0#32
  let c1_i32_368 : BitVec 32 := 1#32
  let arg12 : BitVec 32 := Scf.iv c0_i32_366 c1_i32_368 k0_t2
  let c512_i32_488 : BitVec 32 := 512#32
  let v738 : BitVec 32 := Scalar.muli arg12 c512_i32_488
  v738
def k0_mult12 (k0_t2 : Fin k0_t2_loop.trips) : BitVec 32 :=
  let c0_i32_366 : BitVec 32 := 0#32
  let c1_i32_368 : BitVec 32 := 1#32
  let arg12 : BitVec 32 := Scf.iv c0_i32_366 c1_i32_368 k0_t2
  let c512_i32_496 : BitVec 32 := 512#32
  let v748 : BitVec 32 := Scalar.muli arg12 c512_i32_496
  v748
@[reducible] def k0_t3_loop : Scf.Loop 32 :=
  let c0_i32_374 : BitVec 32 := 0#32
  let c8_i32_375 : BitVec 32 := 8#32
  let v619 : BitVec 32 := Scalar.addi c0_i32_374 c8_i32_375
  let c1_i32_376 : BitVec 32 := 1#32
  ⟨c0_i32_374, v619, c1_i32_376⟩
def k0_mult13 (k0_t3 : Fin k0_t3_loop.trips) : BitVec 32 :=
  let c0_i32_374 : BitVec 32 := 0#32
  let c1_i32_376 : BitVec 32 := 1#32
  let arg12 : BitVec 32 := Scf.iv c0_i32_374 c1_i32_376 k0_t3
  let c512_i32 : BitVec 32 := 512#32
  let v718 : BitVec 32 := Scalar.muli arg12 c512_i32
  v718
def k0_off3 (k0_t3 : Fin k0_t3_loop.trips) : Fin 3 → Nat :=
  let c0_473 : Index := 0#32
  let c0_i32_374 : BitVec 32 := 0#32
  let c1_i32_376 : BitVec 32 := 1#32
  let arg12 : BitVec 32 := Scf.iv c0_i32_374 c1_i32_376 k0_t3
  let c512_i32 : BitVec 32 := 512#32
  let v718 : BitVec 32 := Scalar.muli arg12 c512_i32
  let v719 : BitVec 32 := v718
  let v720 : Index := Scalar.indexCast v719
  let c0_474 : Index := 0#32
  ![0, v720.toNat, 0]
def k0_mult14 (k0_t3 : Fin k0_t3_loop.trips) : BitVec 32 :=
  let c0_i32_374 : BitVec 32 := 0#32
  let c1_i32_376 : BitVec 32 := 1#32
  let arg12 : BitVec 32 := Scf.iv c0_i32_374 c1_i32_376 k0_t3
  let c512_i32_480 : BitVec 32 := 512#32
  let v728 : BitVec 32 := Scalar.muli arg12 c512_i32_480
  v728
def k0_mult15 (k0_t3 : Fin k0_t3_loop.trips) : BitVec 32 :=
  let c0_i32_374 : BitVec 32 := 0#32
  let c1_i32_376 : BitVec 32 := 1#32
  let arg12 : BitVec 32 := Scf.iv c0_i32_374 c1_i32_376 k0_t3
  let c512_i32_488 : BitVec 32 := 512#32
  let v738 : BitVec 32 := Scalar.muli arg12 c512_i32_488
  v738
def k0_mult16 (k0_t3 : Fin k0_t3_loop.trips) : BitVec 32 :=
  let c0_i32_374 : BitVec 32 := 0#32
  let c1_i32_376 : BitVec 32 := 1#32
  let arg12 : BitVec 32 := Scf.iv c0_i32_374 c1_i32_376 k0_t3
  let c512_i32_496 : BitVec 32 := 512#32
  let v748 : BitVec 32 := Scalar.muli arg12 c512_i32_496
  v748
@[reducible] def k0_t4_loop : Scf.Loop 32 :=
  let c0_i32_382 : BitVec 32 := 0#32
  let c8_i32_383 : BitVec 32 := 8#32
  let v625 : BitVec 32 := Scalar.addi c0_i32_382 c8_i32_383
  let c1_i32_384 : BitVec 32 := 1#32
  ⟨c0_i32_382, v625, c1_i32_384⟩
def k0_mult17 (k0_t4 : Fin k0_t4_loop.trips) : BitVec 32 :=
  let c0_i32_382 : BitVec 32 := 0#32
  let c1_i32_384 : BitVec 32 := 1#32
  let arg12 : BitVec 32 := Scf.iv c0_i32_382 c1_i32_384 k0_t4
  let c512_i32 : BitVec 32 := 512#32
  let v718 : BitVec 32 := Scalar.muli arg12 c512_i32
  v718
def k0_off4 (k0_t4 : Fin k0_t4_loop.trips) : Fin 3 → Nat :=
  let c0_473 : Index := 0#32
  let c0_i32_382 : BitVec 32 := 0#32
  let c1_i32_384 : BitVec 32 := 1#32
  let arg12 : BitVec 32 := Scf.iv c0_i32_382 c1_i32_384 k0_t4
  let c512_i32 : BitVec 32 := 512#32
  let v718 : BitVec 32 := Scalar.muli arg12 c512_i32
  let v719 : BitVec 32 := v718
  let v720 : Index := Scalar.indexCast v719
  let c0_474 : Index := 0#32
  ![0, v720.toNat, 0]
def k0_mult18 (k0_t4 : Fin k0_t4_loop.trips) : BitVec 32 :=
  let c0_i32_382 : BitVec 32 := 0#32
  let c1_i32_384 : BitVec 32 := 1#32
  let arg12 : BitVec 32 := Scf.iv c0_i32_382 c1_i32_384 k0_t4
  let c512_i32_480 : BitVec 32 := 512#32
  let v728 : BitVec 32 := Scalar.muli arg12 c512_i32_480
  v728
def k0_mult19 (k0_t4 : Fin k0_t4_loop.trips) : BitVec 32 :=
  let c0_i32_382 : BitVec 32 := 0#32
  let c1_i32_384 : BitVec 32 := 1#32
  let arg12 : BitVec 32 := Scf.iv c0_i32_382 c1_i32_384 k0_t4
  let c512_i32_488 : BitVec 32 := 512#32
  let v738 : BitVec 32 := Scalar.muli arg12 c512_i32_488
  v738
def k0_mult20 (k0_t4 : Fin k0_t4_loop.trips) : BitVec 32 :=
  let c0_i32_382 : BitVec 32 := 0#32
  let c1_i32_384 : BitVec 32 := 1#32
  let arg12 : BitVec 32 := Scf.iv c0_i32_382 c1_i32_384 k0_t4
  let c512_i32_496 : BitVec 32 := 512#32
  let v748 : BitVec 32 := Scalar.muli arg12 c512_i32_496
  v748
@[reducible] def k0_t5_loop : Scf.Loop 32 :=
  let c0_i32_390 : BitVec 32 := 0#32
  let c8_i32_391 : BitVec 32 := 8#32
  let v631 : BitVec 32 := Scalar.addi c0_i32_390 c8_i32_391
  let c1_i32_392 : BitVec 32 := 1#32
  ⟨c0_i32_390, v631, c1_i32_392⟩
def k0_mult21 (k0_t5 : Fin k0_t5_loop.trips) : BitVec 32 :=
  let c0_i32_390 : BitVec 32 := 0#32
  let c1_i32_392 : BitVec 32 := 1#32
  let arg12 : BitVec 32 := Scf.iv c0_i32_390 c1_i32_392 k0_t5
  let c512_i32 : BitVec 32 := 512#32
  let v718 : BitVec 32 := Scalar.muli arg12 c512_i32
  v718
def k0_off5 (k0_t5 : Fin k0_t5_loop.trips) : Fin 3 → Nat :=
  let c0_473 : Index := 0#32
  let c0_i32_390 : BitVec 32 := 0#32
  let c1_i32_392 : BitVec 32 := 1#32
  let arg12 : BitVec 32 := Scf.iv c0_i32_390 c1_i32_392 k0_t5
  let c512_i32 : BitVec 32 := 512#32
  let v718 : BitVec 32 := Scalar.muli arg12 c512_i32
  let v719 : BitVec 32 := v718
  let v720 : Index := Scalar.indexCast v719
  let c0_474 : Index := 0#32
  ![0, v720.toNat, 0]
def k0_mult22 (k0_t5 : Fin k0_t5_loop.trips) : BitVec 32 :=
  let c0_i32_390 : BitVec 32 := 0#32
  let c1_i32_392 : BitVec 32 := 1#32
  let arg12 : BitVec 32 := Scf.iv c0_i32_390 c1_i32_392 k0_t5
  let c512_i32_480 : BitVec 32 := 512#32
  let v728 : BitVec 32 := Scalar.muli arg12 c512_i32_480
  v728
def k0_mult23 (k0_t5 : Fin k0_t5_loop.trips) : BitVec 32 :=
  let c0_i32_390 : BitVec 32 := 0#32
  let c1_i32_392 : BitVec 32 := 1#32
  let arg12 : BitVec 32 := Scf.iv c0_i32_390 c1_i32_392 k0_t5
  let c512_i32_488 : BitVec 32 := 512#32
  let v738 : BitVec 32 := Scalar.muli arg12 c512_i32_488
  v738
def k0_mult24 (k0_t5 : Fin k0_t5_loop.trips) : BitVec 32 :=
  let c0_i32_390 : BitVec 32 := 0#32
  let c1_i32_392 : BitVec 32 := 1#32
  let arg12 : BitVec 32 := Scf.iv c0_i32_390 c1_i32_392 k0_t5
  let c512_i32_496 : BitVec 32 := 512#32
  let v748 : BitVec 32 := Scalar.muli arg12 c512_i32_496
  v748
@[reducible] def k0_t6_loop : Scf.Loop 32 :=
  let c0_i32_398 : BitVec 32 := 0#32
  let c8_i32_399 : BitVec 32 := 8#32
  let v637 : BitVec 32 := Scalar.addi c0_i32_398 c8_i32_399
  let c1_i32_400 : BitVec 32 := 1#32
  ⟨c0_i32_398, v637, c1_i32_400⟩
def k0_mult25 (k0_t6 : Fin k0_t6_loop.trips) : BitVec 32 :=
  let c0_i32_398 : BitVec 32 := 0#32
  let c1_i32_400 : BitVec 32 := 1#32
  let arg12 : BitVec 32 := Scf.iv c0_i32_398 c1_i32_400 k0_t6
  let c512_i32 : BitVec 32 := 512#32
  let v718 : BitVec 32 := Scalar.muli arg12 c512_i32
  v718
def k0_off6 (k0_t6 : Fin k0_t6_loop.trips) : Fin 3 → Nat :=
  let c0_473 : Index := 0#32
  let c0_i32_398 : BitVec 32 := 0#32
  let c1_i32_400 : BitVec 32 := 1#32
  let arg12 : BitVec 32 := Scf.iv c0_i32_398 c1_i32_400 k0_t6
  let c512_i32 : BitVec 32 := 512#32
  let v718 : BitVec 32 := Scalar.muli arg12 c512_i32
  let v719 : BitVec 32 := v718
  let v720 : Index := Scalar.indexCast v719
  let c0_474 : Index := 0#32
  ![0, v720.toNat, 0]
def k0_mult26 (k0_t6 : Fin k0_t6_loop.trips) : BitVec 32 :=
  let c0_i32_398 : BitVec 32 := 0#32
  let c1_i32_400 : BitVec 32 := 1#32
  let arg12 : BitVec 32 := Scf.iv c0_i32_398 c1_i32_400 k0_t6
  let c512_i32_480 : BitVec 32 := 512#32
  let v728 : BitVec 32 := Scalar.muli arg12 c512_i32_480
  v728
def k0_mult27 (k0_t6 : Fin k0_t6_loop.trips) : BitVec 32 :=
  let c0_i32_398 : BitVec 32 := 0#32
  let c1_i32_400 : BitVec 32 := 1#32
  let arg12 : BitVec 32 := Scf.iv c0_i32_398 c1_i32_400 k0_t6
  let c512_i32_488 : BitVec 32 := 512#32
  let v738 : BitVec 32 := Scalar.muli arg12 c512_i32_488
  v738
def k0_mult28 (k0_t6 : Fin k0_t6_loop.trips) : BitVec 32 :=
  let c0_i32_398 : BitVec 32 := 0#32
  let c1_i32_400 : BitVec 32 := 1#32
  let arg12 : BitVec 32 := Scf.iv c0_i32_398 c1_i32_400 k0_t6
  let c512_i32_496 : BitVec 32 := 512#32
  let v748 : BitVec 32 := Scalar.muli arg12 c512_i32_496
  v748
@[reducible] def k0_t7_loop : Scf.Loop 32 :=
  let c0_i32_406 : BitVec 32 := 0#32
  let c8_i32_407 : BitVec 32 := 8#32
  let v643 : BitVec 32 := Scalar.addi c0_i32_406 c8_i32_407
  let c1_i32_408 : BitVec 32 := 1#32
  ⟨c0_i32_406, v643, c1_i32_408⟩
def k0_mult29 (k0_t7 : Fin k0_t7_loop.trips) : BitVec 32 :=
  let c0_i32_406 : BitVec 32 := 0#32
  let c1_i32_408 : BitVec 32 := 1#32
  let arg12 : BitVec 32 := Scf.iv c0_i32_406 c1_i32_408 k0_t7
  let c512_i32 : BitVec 32 := 512#32
  let v718 : BitVec 32 := Scalar.muli arg12 c512_i32
  v718
def k0_off7 (k0_t7 : Fin k0_t7_loop.trips) : Fin 3 → Nat :=
  let c0_473 : Index := 0#32
  let c0_i32_406 : BitVec 32 := 0#32
  let c1_i32_408 : BitVec 32 := 1#32
  let arg12 : BitVec 32 := Scf.iv c0_i32_406 c1_i32_408 k0_t7
  let c512_i32 : BitVec 32 := 512#32
  let v718 : BitVec 32 := Scalar.muli arg12 c512_i32
  let v719 : BitVec 32 := v718
  let v720 : Index := Scalar.indexCast v719
  let c0_474 : Index := 0#32
  ![0, v720.toNat, 0]
def k0_mult30 (k0_t7 : Fin k0_t7_loop.trips) : BitVec 32 :=
  let c0_i32_406 : BitVec 32 := 0#32
  let c1_i32_408 : BitVec 32 := 1#32
  let arg12 : BitVec 32 := Scf.iv c0_i32_406 c1_i32_408 k0_t7
  let c512_i32_480 : BitVec 32 := 512#32
  let v728 : BitVec 32 := Scalar.muli arg12 c512_i32_480
  v728
def k0_mult31 (k0_t7 : Fin k0_t7_loop.trips) : BitVec 32 :=
  let c0_i32_406 : BitVec 32 := 0#32
  let c1_i32_408 : BitVec 32 := 1#32
  let arg12 : BitVec 32 := Scf.iv c0_i32_406 c1_i32_408 k0_t7
  let c512_i32_488 : BitVec 32 := 512#32
  let v738 : BitVec 32 := Scalar.muli arg12 c512_i32_488
  v738
def k0_mult32 (k0_t7 : Fin k0_t7_loop.trips) : BitVec 32 :=
  let c0_i32_406 : BitVec 32 := 0#32
  let c1_i32_408 : BitVec 32 := 1#32
  let arg12 : BitVec 32 := Scf.iv c0_i32_406 c1_i32_408 k0_t7
  let c512_i32_496 : BitVec 32 := 512#32
  let v748 : BitVec 32 := Scalar.muli arg12 c512_i32_496
  v748
@[reducible] def k0_t8_loop : Scf.Loop 32 :=
  let c0_i32_414 : BitVec 32 := 0#32
  let c8_i32_415 : BitVec 32 := 8#32
  let v649 : BitVec 32 := Scalar.addi c0_i32_414 c8_i32_415
  let c1_i32_416 : BitVec 32 := 1#32
  ⟨c0_i32_414, v649, c1_i32_416⟩
def k0_mult33 (k0_t8 : Fin k0_t8_loop.trips) : BitVec 32 :=
  let c0_i32_414 : BitVec 32 := 0#32
  let c1_i32_416 : BitVec 32 := 1#32
  let arg12 : BitVec 32 := Scf.iv c0_i32_414 c1_i32_416 k0_t8
  let c512_i32 : BitVec 32 := 512#32
  let v718 : BitVec 32 := Scalar.muli arg12 c512_i32
  v718
def k0_off8 (k0_t8 : Fin k0_t8_loop.trips) : Fin 3 → Nat :=
  let c0_473 : Index := 0#32
  let c0_i32_414 : BitVec 32 := 0#32
  let c1_i32_416 : BitVec 32 := 1#32
  let arg12 : BitVec 32 := Scf.iv c0_i32_414 c1_i32_416 k0_t8
  let c512_i32 : BitVec 32 := 512#32
  let v718 : BitVec 32 := Scalar.muli arg12 c512_i32
  let v719 : BitVec 32 := v718
  let v720 : Index := Scalar.indexCast v719
  let c0_474 : Index := 0#32
  ![0, v720.toNat, 0]
def k0_mult34 (k0_t8 : Fin k0_t8_loop.trips) : BitVec 32 :=
  let c0_i32_414 : BitVec 32 := 0#32
  let c1_i32_416 : BitVec 32 := 1#32
  let arg12 : BitVec 32 := Scf.iv c0_i32_414 c1_i32_416 k0_t8
  let c512_i32_480 : BitVec 32 := 512#32
  let v728 : BitVec 32 := Scalar.muli arg12 c512_i32_480
  v728
def k0_mult35 (k0_t8 : Fin k0_t8_loop.trips) : BitVec 32 :=
  let c0_i32_414 : BitVec 32 := 0#32
  let c1_i32_416 : BitVec 32 := 1#32
  let arg12 : BitVec 32 := Scf.iv c0_i32_414 c1_i32_416 k0_t8
  let c512_i32_488 : BitVec 32 := 512#32
  let v738 : BitVec 32 := Scalar.muli arg12 c512_i32_488
  v738
def k0_mult36 (k0_t8 : Fin k0_t8_loop.trips) : BitVec 32 :=
  let c0_i32_414 : BitVec 32 := 0#32
  let c1_i32_416 : BitVec 32 := 1#32
  let arg12 : BitVec 32 := Scf.iv c0_i32_414 c1_i32_416 k0_t8
  let c512_i32_496 : BitVec 32 := 512#32
  let v748 : BitVec 32 := Scalar.muli arg12 c512_i32_496
  v748
def k0_mult37 : BitVec 32 :=
  let c0_i32_421 : BitVec 32 := 0#32
  c0_i32_421
def k0_mult38 : BitVec 32 :=
  let c0_i32_434 : BitVec 32 := 0#32
  c0_i32_434
def k0_mult39 : BitVec 32 :=
  let c0_i32_447 : BitVec 32 := 0#32
  c0_i32_447
def k0_mult40 : BitVec 32 :=
  let c0_i32_460 : BitVec 32 := 0#32
  c0_i32_460
@[reducible] def k0_t9_loop : Scf.Loop 32 :=
  let c0_i32_299 : BitVec 32 := 0#32
  let c8_i32 : BitVec 32 := 8#32
  let v461 : BitVec 32 := Scalar.addi c0_i32_299 c8_i32
  let c1_i32 : BitVec 32 := 1#32
  ⟨c0_i32_299, v461, c1_i32⟩
def k0_mult41 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c0_i32_360 : BitVec 32 := 0#32
  let v609 : BitVec 32 := Scalar.addi v608 c0_i32_360
  let c1_i32_361 : BitVec 32 := 1#32
  let v610 : BitVec 32 := Scalar.addi v609 c1_i32_361
  let c512_i32 : BitVec 32 := 512#32
  let v611 : BitVec 32 := Scalar.muli v610 c512_i32
  v611
def k0_off9 (k0_t9 : Fin k0_t9_loop.trips) (c0_i32_360 : BitVec 32) : Fin 3 → Nat :=
  let c0_362 : Index := 0#32
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let v609 : BitVec 32 := Scalar.addi v608 c0_i32_360
  let c1_i32_361 : BitVec 32 := 1#32
  let v610 : BitVec 32 := Scalar.addi v609 c1_i32_361
  let c512_i32 : BitVec 32 := 512#32
  let v611 : BitVec 32 := Scalar.muli v610 c512_i32
  let v612 : BitVec 32 := v611
  let v613 : Index := Scalar.indexCast v612
  let c0_363 : Index := 0#32
  ![0, v613.toNat, 0]
def k0_off10 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v616 : Index := Scalar.indexCast v606
  let c0_364 : Index := 0#32
  let c0_365 : Index := 0#32
  ![v616.toNat, 0, 0]
def k0_off11 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v620 : Index := Scalar.indexCast v606
  let c0_367 : Index := 0#32
  let c0_368 : Index := 0#32
  ![v620.toNat, 0, 0]
def k0_mult42 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c0_i32_360 : BitVec 32 := 0#32
  let v609 : BitVec 32 := Scalar.addi v608 c0_i32_360
  let c1_i32_361 : BitVec 32 := 1#32
  let v610 : BitVec 32 := Scalar.addi v609 c1_i32_361
  let c512_i32_372 : BitVec 32 := 512#32
  let v630 : BitVec 32 := Scalar.muli v610 c512_i32_372
  v630
def k0_off12 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v635 : Index := Scalar.indexCast v606
  let c256_375 : Index := 256#32
  let c0_376 : Index := 0#32
  ![v635.toNat, 256, 0]
def k0_off13 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v639 : Index := Scalar.indexCast v606
  let c0_378 : Index := 0#32
  let c256_379 : Index := 256#32
  ![v639.toNat, 0, 256]
def k0_mult43 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c0_i32_360 : BitVec 32 := 0#32
  let v609 : BitVec 32 := Scalar.addi v608 c0_i32_360
  let c1_i32_361 : BitVec 32 := 1#32
  let v610 : BitVec 32 := Scalar.addi v609 c1_i32_361
  let c512_i32_383 : BitVec 32 := 512#32
  let v649 : BitVec 32 := Scalar.muli v610 c512_i32_383
  v649
def k0_off14 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v654 : Index := Scalar.indexCast v606
  let c512_386 : Index := 512#32
  let c0_387 : Index := 0#32
  ![v654.toNat, 512, 0]
def k0_off15 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v658 : Index := Scalar.indexCast v606
  let c0_389 : Index := 0#32
  let c512_390 : Index := 512#32
  ![v658.toNat, 0, 512]
def k0_mult44 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c0_i32_360 : BitVec 32 := 0#32
  let v609 : BitVec 32 := Scalar.addi v608 c0_i32_360
  let c1_i32_361 : BitVec 32 := 1#32
  let v610 : BitVec 32 := Scalar.addi v609 c1_i32_361
  let c512_i32_394 : BitVec 32 := 512#32
  let v668 : BitVec 32 := Scalar.muli v610 c512_i32_394
  v668
def k0_off16 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v673 : Index := Scalar.indexCast v606
  let c768_397 : Index := 768#32
  let c0_398 : Index := 0#32
  ![v673.toNat, 768, 0]
def k0_off17 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v677 : Index := Scalar.indexCast v606
  let c0_400 : Index := 0#32
  let c768_401 : Index := 768#32
  ![v677.toNat, 0, 768]
def k0_off18 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v688 : Index := Scalar.indexCast v606
  let c0_406 : Index := 0#32
  let c0_407 : Index := 0#32
  ![v688.toNat, 0, 0]
def k0_off19 (k0_t9 : Fin k0_t9_loop.trips) (c0_i32_405 : BitVec 32) : Fin 4 → Nat :=
  let c0_408 : Index := 0#32
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let v687 : BitVec 32 := Scalar.addi v608 c0_i32_405
  let v691 : Index := Scalar.indexCast v687
  let c0_409 : Index := 0#32
  let c0_410 : Index := 0#32
  ![0, v691.toNat, 0, 0]
def k0_off20 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v702 : Index := Scalar.indexCast v606
  let c0_417 : Index := 0#32
  let c256_418 : Index := 256#32
  ![v702.toNat, 0, 256]
def k0_off21 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v716 : Index := Scalar.indexCast v606
  let c0_428 : Index := 0#32
  let c512_429 : Index := 512#32
  ![v716.toNat, 0, 512]
def k0_off22 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_357 : BitVec 32 := 1#32
  let v606 : BitVec 32 := Scalar.divsi arg12 c1_i32_357
  let v730 : Index := Scalar.indexCast v606
  let c0_439 : Index := 0#32
  let c768_440 : Index := 768#32
  ![v730.toNat, 0, 768]
def k0_mult45 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c1_i32_450 : BitVec 32 := 1#32
  let v744 : BitVec 32 := Scalar.addi v608 c1_i32_450
  let c1_i32_451 : BitVec 32 := 1#32
  let v745 : BitVec 32 := Scalar.addi v744 c1_i32_451
  let c512_i32_452 : BitVec 32 := 512#32
  let v746 : BitVec 32 := Scalar.muli v745 c512_i32_452
  v746
def k0_mult46 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c1_i32_450 : BitVec 32 := 1#32
  let v744 : BitVec 32 := Scalar.addi v608 c1_i32_450
  let c1_i32_451 : BitVec 32 := 1#32
  let v745 : BitVec 32 := Scalar.addi v744 c1_i32_451
  let c512_i32_463 : BitVec 32 := 512#32
  let v765 : BitVec 32 := Scalar.muli v745 c512_i32_463
  v765
def k0_mult47 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c1_i32_450 : BitVec 32 := 1#32
  let v744 : BitVec 32 := Scalar.addi v608 c1_i32_450
  let c1_i32_451 : BitVec 32 := 1#32
  let v745 : BitVec 32 := Scalar.addi v744 c1_i32_451
  let c512_i32_474 : BitVec 32 := 512#32
  let v784 : BitVec 32 := Scalar.muli v745 c512_i32_474
  v784
def k0_mult48 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c1_i32_450 : BitVec 32 := 1#32
  let v744 : BitVec 32 := Scalar.addi v608 c1_i32_450
  let c1_i32_451 : BitVec 32 := 1#32
  let v745 : BitVec 32 := Scalar.addi v744 c1_i32_451
  let c512_i32_485 : BitVec 32 := 512#32
  let v803 : BitVec 32 := Scalar.muli v745 c512_i32_485
  v803
def k0_mult49 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c2_i32 : BitVec 32 := 2#32
  let v879 : BitVec 32 := Scalar.addi v608 c2_i32
  let c1_i32_541 : BitVec 32 := 1#32
  let v880 : BitVec 32 := Scalar.addi v879 c1_i32_541
  let c512_i32_542 : BitVec 32 := 512#32
  let v881 : BitVec 32 := Scalar.muli v880 c512_i32_542
  v881
def k0_mult50 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c2_i32 : BitVec 32 := 2#32
  let v879 : BitVec 32 := Scalar.addi v608 c2_i32
  let c1_i32_541 : BitVec 32 := 1#32
  let v880 : BitVec 32 := Scalar.addi v879 c1_i32_541
  let c512_i32_553 : BitVec 32 := 512#32
  let v900 : BitVec 32 := Scalar.muli v880 c512_i32_553
  v900
def k0_mult51 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c2_i32 : BitVec 32 := 2#32
  let v879 : BitVec 32 := Scalar.addi v608 c2_i32
  let c1_i32_541 : BitVec 32 := 1#32
  let v880 : BitVec 32 := Scalar.addi v879 c1_i32_541
  let c512_i32_564 : BitVec 32 := 512#32
  let v919 : BitVec 32 := Scalar.muli v880 c512_i32_564
  v919
def k0_mult52 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c2_i32 : BitVec 32 := 2#32
  let v879 : BitVec 32 := Scalar.addi v608 c2_i32
  let c1_i32_541 : BitVec 32 := 1#32
  let v880 : BitVec 32 := Scalar.addi v879 c1_i32_541
  let c512_i32_575 : BitVec 32 := 512#32
  let v938 : BitVec 32 := Scalar.muli v880 c512_i32_575
  v938
def k0_mult53 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c3_i32 : BitVec 32 := 3#32
  let v1014 : BitVec 32 := Scalar.addi v608 c3_i32
  let c1_i32_631 : BitVec 32 := 1#32
  let v1015 : BitVec 32 := Scalar.addi v1014 c1_i32_631
  let c512_i32_632 : BitVec 32 := 512#32
  let v1016 : BitVec 32 := Scalar.muli v1015 c512_i32_632
  v1016
def k0_mult54 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c3_i32 : BitVec 32 := 3#32
  let v1014 : BitVec 32 := Scalar.addi v608 c3_i32
  let c1_i32_631 : BitVec 32 := 1#32
  let v1015 : BitVec 32 := Scalar.addi v1014 c1_i32_631
  let c512_i32_643 : BitVec 32 := 512#32
  let v1035 : BitVec 32 := Scalar.muli v1015 c512_i32_643
  v1035
def k0_mult55 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c3_i32 : BitVec 32 := 3#32
  let v1014 : BitVec 32 := Scalar.addi v608 c3_i32
  let c1_i32_631 : BitVec 32 := 1#32
  let v1015 : BitVec 32 := Scalar.addi v1014 c1_i32_631
  let c512_i32_654 : BitVec 32 := 512#32
  let v1054 : BitVec 32 := Scalar.muli v1015 c512_i32_654
  v1054
def k0_mult56 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c3_i32 : BitVec 32 := 3#32
  let v1014 : BitVec 32 := Scalar.addi v608 c3_i32
  let c1_i32_631 : BitVec 32 := 1#32
  let v1015 : BitVec 32 := Scalar.addi v1014 c1_i32_631
  let c512_i32_665 : BitVec 32 := 512#32
  let v1073 : BitVec 32 := Scalar.muli v1015 c512_i32_665
  v1073
def k0_mult57 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c4_i32 : BitVec 32 := 4#32
  let v1149 : BitVec 32 := Scalar.addi v608 c4_i32
  let c1_i32_721 : BitVec 32 := 1#32
  let v1150 : BitVec 32 := Scalar.addi v1149 c1_i32_721
  let c512_i32_722 : BitVec 32 := 512#32
  let v1151 : BitVec 32 := Scalar.muli v1150 c512_i32_722
  v1151
def k0_mult58 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c4_i32 : BitVec 32 := 4#32
  let v1149 : BitVec 32 := Scalar.addi v608 c4_i32
  let c1_i32_721 : BitVec 32 := 1#32
  let v1150 : BitVec 32 := Scalar.addi v1149 c1_i32_721
  let c512_i32_733 : BitVec 32 := 512#32
  let v1170 : BitVec 32 := Scalar.muli v1150 c512_i32_733
  v1170
def k0_mult59 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c4_i32 : BitVec 32 := 4#32
  let v1149 : BitVec 32 := Scalar.addi v608 c4_i32
  let c1_i32_721 : BitVec 32 := 1#32
  let v1150 : BitVec 32 := Scalar.addi v1149 c1_i32_721
  let c512_i32_744 : BitVec 32 := 512#32
  let v1189 : BitVec 32 := Scalar.muli v1150 c512_i32_744
  v1189
def k0_mult60 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c4_i32 : BitVec 32 := 4#32
  let v1149 : BitVec 32 := Scalar.addi v608 c4_i32
  let c1_i32_721 : BitVec 32 := 1#32
  let v1150 : BitVec 32 := Scalar.addi v1149 c1_i32_721
  let c512_i32_755 : BitVec 32 := 512#32
  let v1208 : BitVec 32 := Scalar.muli v1150 c512_i32_755
  v1208
def k0_mult61 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c5_i32 : BitVec 32 := 5#32
  let v1284 : BitVec 32 := Scalar.addi v608 c5_i32
  let c1_i32_811 : BitVec 32 := 1#32
  let v1285 : BitVec 32 := Scalar.addi v1284 c1_i32_811
  let c512_i32_812 : BitVec 32 := 512#32
  let v1286 : BitVec 32 := Scalar.muli v1285 c512_i32_812
  v1286
def k0_mult62 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c5_i32 : BitVec 32 := 5#32
  let v1284 : BitVec 32 := Scalar.addi v608 c5_i32
  let c1_i32_811 : BitVec 32 := 1#32
  let v1285 : BitVec 32 := Scalar.addi v1284 c1_i32_811
  let c512_i32_823 : BitVec 32 := 512#32
  let v1305 : BitVec 32 := Scalar.muli v1285 c512_i32_823
  v1305
def k0_mult63 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c5_i32 : BitVec 32 := 5#32
  let v1284 : BitVec 32 := Scalar.addi v608 c5_i32
  let c1_i32_811 : BitVec 32 := 1#32
  let v1285 : BitVec 32 := Scalar.addi v1284 c1_i32_811
  let c512_i32_834 : BitVec 32 := 512#32
  let v1324 : BitVec 32 := Scalar.muli v1285 c512_i32_834
  v1324
def k0_mult64 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c5_i32 : BitVec 32 := 5#32
  let v1284 : BitVec 32 := Scalar.addi v608 c5_i32
  let c1_i32_811 : BitVec 32 := 1#32
  let v1285 : BitVec 32 := Scalar.addi v1284 c1_i32_811
  let c512_i32_845 : BitVec 32 := 512#32
  let v1343 : BitVec 32 := Scalar.muli v1285 c512_i32_845
  v1343
def k0_mult65 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c6_i32 : BitVec 32 := 6#32
  let v1419 : BitVec 32 := Scalar.addi v608 c6_i32
  let c1_i32_901 : BitVec 32 := 1#32
  let v1420 : BitVec 32 := Scalar.addi v1419 c1_i32_901
  let c512_i32_902 : BitVec 32 := 512#32
  let v1421 : BitVec 32 := Scalar.muli v1420 c512_i32_902
  v1421
def k0_mult66 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c6_i32 : BitVec 32 := 6#32
  let v1419 : BitVec 32 := Scalar.addi v608 c6_i32
  let c1_i32_901 : BitVec 32 := 1#32
  let v1420 : BitVec 32 := Scalar.addi v1419 c1_i32_901
  let c512_i32_913 : BitVec 32 := 512#32
  let v1440 : BitVec 32 := Scalar.muli v1420 c512_i32_913
  v1440
def k0_mult67 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c6_i32 : BitVec 32 := 6#32
  let v1419 : BitVec 32 := Scalar.addi v608 c6_i32
  let c1_i32_901 : BitVec 32 := 1#32
  let v1420 : BitVec 32 := Scalar.addi v1419 c1_i32_901
  let c512_i32_924 : BitVec 32 := 512#32
  let v1459 : BitVec 32 := Scalar.muli v1420 c512_i32_924
  v1459
def k0_mult68 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_358 : BitVec 32 := 1#32
  let v607 : BitVec 32 := Scalar.remsi arg12 c1_i32_358
  let c8_i32_359 : BitVec 32 := 8#32
  let v608 : BitVec 32 := Scalar.muli v607 c8_i32_359
  let c6_i32 : BitVec 32 := 6#32
  let v1419 : BitVec 32 := Scalar.addi v608 c6_i32
  let c1_i32_901 : BitVec 32 := 1#32
  let v1420 : BitVec 32 := Scalar.addi v1419 c1_i32_901
  let c512_i32_935 : BitVec 32 := 512#32
  let v1478 : BitVec 32 := Scalar.muli v1420 c512_i32_935
  v1478
def k0_mult69 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_994 : BitVec 32 := 8#32
  let v1558 : BitVec 32 := Scalar.remsi v1556 c8_i32_994
  let c512_i32_995 : BitVec 32 := 512#32
  let v1559 : BitVec 32 := Scalar.muli v1558 c512_i32_995
  v1559
def k0_off23 (k0_t9 : Fin k0_t9_loop.trips) : Fin 3 → Nat :=
  let c0_996 : Index := 0#32
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_994 : BitVec 32 := 8#32
  let v1558 : BitVec 32 := Scalar.remsi v1556 c8_i32_994
  let c512_i32_995 : BitVec 32 := 512#32
  let v1559 : BitVec 32 := Scalar.muli v1558 c512_i32_995
  let v1560 : BitVec 32 := v1559
  let v1561 : Index := Scalar.indexCast v1560
  let c0_997 : Index := 0#32
  ![0, v1561.toNat, 0]
def k0_off24 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_993 : BitVec 32 := 8#32
  let v1557 : BitVec 32 := Scalar.divsi v1556 c8_i32_993
  let v1564 : Index := Scalar.indexCast v1557
  let c0_998 : Index := 0#32
  let c0_999 : Index := 0#32
  ![v1564.toNat, 0, 0]
def k0_off25 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_993 : BitVec 32 := 8#32
  let v1557 : BitVec 32 := Scalar.divsi v1556 c8_i32_993
  let v1568 : Index := Scalar.indexCast v1557
  let c0_1001 : Index := 0#32
  let c0_1002 : Index := 0#32
  ![v1568.toNat, 0, 0]
def k0_mult70 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_994 : BitVec 32 := 8#32
  let v1558 : BitVec 32 := Scalar.remsi v1556 c8_i32_994
  let c512_i32_1006 : BitVec 32 := 512#32
  let v1578 : BitVec 32 := Scalar.muli v1558 c512_i32_1006
  v1578
def k0_off26 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_993 : BitVec 32 := 8#32
  let v1557 : BitVec 32 := Scalar.divsi v1556 c8_i32_993
  let v1583 : Index := Scalar.indexCast v1557
  let c256_1009 : Index := 256#32
  let c0_1010 : Index := 0#32
  ![v1583.toNat, 256, 0]
def k0_off27 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_993 : BitVec 32 := 8#32
  let v1557 : BitVec 32 := Scalar.divsi v1556 c8_i32_993
  let v1587 : Index := Scalar.indexCast v1557
  let c0_1012 : Index := 0#32
  let c256_1013 : Index := 256#32
  ![v1587.toNat, 0, 256]
def k0_mult71 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_994 : BitVec 32 := 8#32
  let v1558 : BitVec 32 := Scalar.remsi v1556 c8_i32_994
  let c512_i32_1017 : BitVec 32 := 512#32
  let v1597 : BitVec 32 := Scalar.muli v1558 c512_i32_1017
  v1597
def k0_off28 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_993 : BitVec 32 := 8#32
  let v1557 : BitVec 32 := Scalar.divsi v1556 c8_i32_993
  let v1602 : Index := Scalar.indexCast v1557
  let c512_1020 : Index := 512#32
  let c0_1021 : Index := 0#32
  ![v1602.toNat, 512, 0]
def k0_off29 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_993 : BitVec 32 := 8#32
  let v1557 : BitVec 32 := Scalar.divsi v1556 c8_i32_993
  let v1606 : Index := Scalar.indexCast v1557
  let c0_1023 : Index := 0#32
  let c512_1024 : Index := 512#32
  ![v1606.toNat, 0, 512]
def k0_mult72 (k0_t9 : Fin k0_t9_loop.trips) : BitVec 32 :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_994 : BitVec 32 := 8#32
  let v1558 : BitVec 32 := Scalar.remsi v1556 c8_i32_994
  let c512_i32_1028 : BitVec 32 := 512#32
  let v1616 : BitVec 32 := Scalar.muli v1558 c512_i32_1028
  v1616
def k0_off30 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_993 : BitVec 32 := 8#32
  let v1557 : BitVec 32 := Scalar.divsi v1556 c8_i32_993
  let v1621 : Index := Scalar.indexCast v1557
  let c768_1031 : Index := 768#32
  let c0_1032 : Index := 0#32
  ![v1621.toNat, 768, 0]
def k0_off31 (k0_t9 : Fin k0_t9_loop.trips) : Fin 3 → Nat :=
  let c0_i32_299 : BitVec 32 := 0#32
  let c1_i32 : BitVec 32 := 1#32
  let arg12 : BitVec 32 := Scf.iv c0_i32_299 c1_i32 k0_t9
  let c1_i32_991 : BitVec 32 := 1#32
  let v1554 : BitVec 32 := Scalar.addi arg12 c1_i32_991
  let c8_i32_992 : BitVec 32 := 8#32
  let v1555 : BitVec 32 := Scalar.muli v1554 c8_i32_992
  let c63_i32 : BitVec 32 := 63#32
  let v1556 : BitVec 32 := Scalar.minsi v1555 c63_i32
  let c8_i32_993 : BitVec 32 := 8#32
  let v1557 : BitVec 32 := Scalar.divsi v1556 c8_i32_993
  let v1625 : Index := Scalar.indexCast v1557
  let c0_1034 : Index := 0#32
  let c768_1035 : Index := 768#32
  ![v1625.toNat, 0, 768]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "scale" => some (((8 * (Real.log 2))⁻¹ : ℝ) : EReal)
  | _ => none
-- ==== ReferenceIdeal.lean ====
abbrev S1 : Shape := ⟨1, ![1]⟩
abbrev S4x4096x8x64 : Shape := ⟨4, ![4, 4096, 8, 64]⟩
abbrev S4x4096x2x64 : Shape := ⟨4, ![4, 4096, 2, 64]⟩
abbrev S4x4096x2x4x64 : Shape := ⟨5, ![4, 4096, 2, 4, 64]⟩
abbrev S4x2x4096x4096x4 : Shape := ⟨5, ![4, 2, 4096, 4096, 4]⟩
abbrev S4x2x4x4096x4096 : Shape := ⟨5, ![4, 2, 4, 4096, 4096]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩
abbrev S16384x512 : Shape := ⟨2, ![16384, 512]⟩

abbrev nBuf : Space → Nat
  | .hbm => 28
  | .vmem => 0
  | .smem => 0
  | _ => 0

abbrev bufTy : (tb : Table) → Fin (tcTables nBuf tb) → BufTy
  | .hbm, ⟨0, _⟩ => ⟨S1, .f32⟩
  | .hbm, ⟨1, _⟩ => ⟨S4x4096x8x64, .f32⟩
  | .hbm, ⟨2, _⟩ => ⟨S4x4096x2x64, .f32⟩
  | .hbm, ⟨3, _⟩ => ⟨S4x4096x2x64, .f32⟩
  | .hbm, ⟨4, _⟩ => ⟨S4x4096x2x4x64, .f32⟩
  | .hbm, ⟨5, _⟩ => ⟨S4x2x4096x4096x4, .f32⟩
  | .hbm, ⟨6, _⟩ => ⟨S4x2x4x4096x4096, .f32⟩
  | .hbm, ⟨7, _⟩ => ⟨S_, .f32⟩
  | .hbm, ⟨8, _⟩ => ⟨S4x2x4x4096x4096, .f32⟩
  | .hbm, ⟨9, _⟩ => ⟨S4x2x4x4096x4096, .f32⟩
  | .hbm, ⟨10, _⟩ => ⟨S_, .f32⟩
  | .hbm, ⟨11, _⟩ => ⟨S4x2x4x4096, .f32⟩
  | .hbm, ⟨12, _⟩ => ⟨S_, .f32⟩
  | .hbm, ⟨13, _⟩ => ⟨S4x2x4x4096, .f32⟩
  | .hbm, ⟨14, _⟩ => ⟨S4x2x4x4096, .f32⟩
  | .hbm, ⟨15, _⟩ => ⟨S4x2x4x4096x1, .f32⟩
  | .hbm, ⟨16, _⟩ => ⟨S4x2x4x4096x4096, .f32⟩
  | .hbm, ⟨17, _⟩ => ⟨S4x2x4x4096x4096, .f32⟩
  | .hbm, ⟨18, _⟩ => ⟨S4x2x4x4096x4096, .f32⟩
  | .hbm, ⟨19, _⟩ => ⟨S_, .f32⟩
  | .hbm, ⟨20, _⟩ => ⟨S4x2x4x4096, .f32⟩
  | .hbm, ⟨21, _⟩ => ⟨S4x2x4x4096x1, .f32⟩
  | .hbm, ⟨22, _⟩ => ⟨S4x2x4x4096x4096, .f32⟩
  | .hbm, ⟨23, _⟩ => ⟨S4x2x4x4096x4096, .f32⟩
  | .hbm, ⟨24, _⟩ => ⟨S4x2x64x4x4096, .f32⟩
  | .hbm, ⟨25, _⟩ => ⟨S4x4096x2x4x64, .f32⟩
  | .hbm, ⟨26, _⟩ => ⟨S16384x512, .f32⟩
  | .hbm, ⟨27, _⟩ => ⟨S16384x512, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel2.lean ====
abbrev S16384x512 : Shape := ⟨2, ![16384, 512]⟩
abbrev S16384x1024 : Shape := ⟨2, ![16384, 1024]⟩
abbrev S16384x256 : Shape := ⟨2, ![16384, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S512x512 : Shape := ⟨2, ![512, 512]⟩
abbrev S512x256 : Shape := ⟨2, ![512, 256]⟩
abbrev S512x2816 : Shape := ⟨2, ![512, 2816]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1024x256 : Shape := ⟨2, ![1024, 256]⟩
abbrev S256x2816 : Shape := ⟨2, ![256, 2816]⟩

abbrev nBuf : Space → Nat
  | .hbm => 32
  | .vmem => 22
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S16384x256, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S1024, .f32⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S1024x5632, .f32⟩
  | .hbm, ⟨21, _⟩ => ⟨S1024x5632, .bf16⟩
  | .hbm, ⟨22, _⟩ => ⟨S2816x1024, .f32⟩
  | .hbm, ⟨23, _⟩ => ⟨S2816x1024, .bf16⟩
  | .hbm, ⟨24, _⟩ => ⟨S1024, .f32⟩
  | .hbm, ⟨25, _⟩ => ⟨S1x1024, .f32⟩
  | .hbm, ⟨26, _⟩ => ⟨S1024x1024, .f32⟩
  | .hbm, ⟨27, _⟩ => ⟨S1024x1024, .bf16⟩
  | .hbm, ⟨28, _⟩ => ⟨S256x1024, .f32⟩
  | .hbm, ⟨29, _⟩ => ⟨S256x1024, .bf16⟩
  | .hbm, ⟨30, _⟩ => ⟨S1x1024, .f32⟩
  | .hbm, ⟨31, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x5632, .bf16⟩
  | .local _ .vmem, ⟨14, _⟩ => ⟨S2816x1024, .bf16⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x2816, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16384x512 : Shape := ⟨2, ![16384, 512]⟩
abbrev S16384x1024 : Shape := ⟨2, ![16384, 1024]⟩
abbrev S16384x256 : Shape := ⟨2, ![16384, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x256x1024 : Shape := ⟨3, ![1, 256, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S256x1024 : Shape := ⟨2, ![256, 1024]⟩

abbrev nBuf : Space → Nat
  | .hbm => 108
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S16384x256, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S1024, .f32⟩
  | .hbm, ⟨14, _⟩ => ⟨S16384x1024, .f32⟩
  | .hbm, ⟨15, _⟩ => ⟨S16384x512, .f32⟩
  | .hbm, ⟨16, _⟩ => ⟨S512x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1024x1024, .f32⟩
  | .hbm, ⟨22, _⟩ => ⟨S16384x1024, .f32⟩
  | .hbm, ⟨23, _⟩ => ⟨S16384x1024, .f32⟩
  | .hbm, ⟨24, _⟩ => ⟨S1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1024x5632, .f32⟩
  | .hbm, ⟨42, _⟩ => ⟨S2816x1024, .f32⟩
  | .hbm, ⟨43, _⟩ => ⟨S16384x5632, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S1024x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384x1024, .f32⟩
  | .hbm, ⟨87, _⟩ => ⟨S16384x1024, .f32⟩
  | .hbm, ⟨88, _⟩ => ⟨S256x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S_, .f32⟩
  | .hbm, ⟨100, _⟩ => ⟨S16384x1, .f32⟩
  | .hbm, ⟨101, _⟩ => ⟨S16384x1, .f32⟩
  | .hbm, ⟨102, _⟩ => ⟨S16384x1, .f32⟩
  | .hbm, ⟨103, _⟩ => ⟨S16384x1024, .f32⟩
  | .hbm, ⟨104, _⟩ => ⟨S16384x1024, .f32⟩
  | .hbm, ⟨105, _⟩ => ⟨S1x1024, .f32⟩
  | .hbm, ⟨106, _⟩ => ⟨S16384x1024, .f32⟩
  | .hbm, ⟨107, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_v39 : Ref sig .tc := ⟨.hbm, 67, rfl⟩
abbrev main_v40 : Ref sig .tc := ⟨.hbm, 68, rfl⟩
abbrev main_cst_5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_v54 : Ref sig .tc := ⟨.hbm, 84, rfl⟩
abbrev main_cst_7 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_8 : Ref sig .tc := ⟨.hbm, 93, rfl⟩
abbrev main_v62 : Ref sig .tc := ⟨.hbm, 94, rfl⟩
abbrev main_v63 : Ref sig .tc := ⟨.hbm, 95, rfl⟩
abbrev main_cst_9 : Ref sig .tc := ⟨.hbm, 96, rfl⟩
abbrev main_v64 : Ref sig .tc := ⟨.hbm, 97, rfl⟩
abbrev main_v65 : Ref sig .tc := ⟨.hbm, 98, rfl⟩
abbrev main_cst_10 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩

abbrev nD : Nat := 1
abbrev τ : Topo := Topo.v7x

variable {F : FTy → Type} [FloatOps F]
-- ==== Kernel3.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3840 : Shape := ⟨3, ![1, 1024, 3840]⟩
abbrev S1x64 : Shape := ⟨2, ![1, 64]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S64 : Shape := ⟨1, ![64]⟩
abbrev S64x64 : Shape := ⟨2, ![64, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8x128x128 : Shape := ⟨3, ![8, 128, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x3840 : Shape := ⟨2, ![1024, 3840]⟩
abbrev S8x64 : Shape := ⟨2, ![8, 64]⟩
abbrev S512 : Shape := ⟨1, ![512]⟩
abbrev S2x64 : Shape := ⟨2, ![2, 64]⟩
abbrev S128 : Shape := ⟨1, ![128]⟩
abbrev S1x128 : Shape := ⟨2, ![1, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S512x1024 : Shape := ⟨2, ![512, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128x1 : Shape := ⟨2, ![128, 1]⟩
abbrev S128x128 : Shape := ⟨2, ![128, 128]⟩
abbrev S16384x512 : Shape := ⟨2, ![16384, 512]⟩
abbrev S2x16384x128 : Shape := ⟨3, ![2, 16384, 128]⟩
abbrev S2x32x128x512 : Shape := ⟨4, ![2, 32, 128, 512]⟩
abbrev S512x128 : Shape := ⟨2, ![512, 128]⟩
abbrev S512x512 : Shape := ⟨2, ![512, 512]⟩
abbrev S2x512x128 : Shape := ⟨3, ![2, 512, 128]⟩
abbrev S2x1x128x512 : Shape := ⟨4, ![2, 1, 128, 512]⟩
abbrev S512x2816 : Shape := ⟨2, ![512, 2816]⟩
abbrev S256x1024 : Shape := ⟨2, ![256, 1024]⟩
abbrev S1024x256 : Shape := ⟨2, ![1024, 256]⟩
abbrev S256x2816 : Shape := ⟨2, ![256, 2816]⟩
abbrev S1024x512 : Shape := ⟨2, ![1024, 512]⟩
abbrev S256x512 : Shape := ⟨2, ![256, 512]⟩
abbrev S1024x1024 : Shape := ⟨2, ![1024, 1024]⟩
abbrev S256x128 : Shape := ⟨2, ![256, 128]⟩
abbrev S1x128x256 : Shape := ⟨3, ![1, 128, 256]⟩
abbrev S128x256 : Shape := ⟨2, ![128, 256]⟩
abbrev S64x256 : Shape := ⟨2, ![64, 256]⟩
abbrev S1x256x128 : Shape := ⟨3, ![1, 256, 128]⟩
abbrev S1x1x64x256 : Shape := ⟨4, ![1, 1, 64, 256]⟩

abbrev nBuf : Space → Nat
  | .hbm => 158
  | .vmem => 32
  | .smem => 0
  | _ => 0

abbrev hbmTy0_0 (i : Nat) : BufTy := match i % 128 with
  | 0 => ⟨S4x4096x1024, .f32⟩
  | 1 => ⟨S1x1024, .f32⟩
  | 2 => ⟨S1x1024x5632, .f32⟩
  | 3 => ⟨S1x2816x1024, .f32⟩
  | 4 => ⟨S1x1024, .f32⟩
  | 5 => ⟨S1x1024x3840, .f32⟩
  | 6 => ⟨S1x64, .f32⟩
  | 7 => ⟨S1x64, .f32⟩
  | 8 => ⟨S1x512, .f32⟩
  | 9 => ⟨S1x8x128x128, .f32⟩
  | 10 => ⟨S1x8x128, .f32⟩
  | 11 => ⟨S1x512x1024, .f32⟩
  | 12 => ⟨S64, .f32⟩
  | 13 => ⟨S64x64, .f32⟩
  | 14 => ⟨S4096, .f32⟩
  | 15 => ⟨S64, .f32⟩
  | 16 => ⟨S1x64, .f32⟩
  | 17 => ⟨S64x64, .f32⟩
  | 18 => ⟨S4096, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x1, .f32⟩
  | 33 => ⟨S1x16, .f32⟩
  | 34 => ⟨S4096x16, .f32⟩
  | 35 => ⟨S4096x16, .f32⟩
  | 36 => ⟨S4096x16, .f32⟩
  | 37 => ⟨S4096x1x16, .f32⟩
  | 38 => ⟨S4096x1x16, .f32⟩
  | 39 => ⟨S4096x2x16, .f32⟩
  | 40 => ⟨S4096x2x16, .f32⟩
  | 41 => ⟨S4096x2x16, .f32⟩
  | 42 => ⟨S4096x1x16, .f32⟩
  | 43 => ⟨S4096x16, .f32⟩
  | 44 => ⟨S4096x1x16, .f32⟩
  | 45 => ⟨S4096x16, .f32⟩
  | 46 => ⟨S4096x1x16, .f32⟩
  | 47 => ⟨S4096x16, .f32⟩
  | 48 => ⟨S4096x1x16, .f32⟩
  | 49 => ⟨S4096x16, .f32⟩
  | 50 => ⟨S4096x64, .f32⟩
  | 51 => ⟨S4096x1x16, .f32⟩
  | 52 => ⟨S4096x16, .f32⟩
  | 53 => ⟨S4096x16, .f32⟩
  | 54 => ⟨S4096x1x16, .f32⟩
  | 55 => ⟨S4096x16, .f32⟩
  | 56 => ⟨S4096x1x16, .f32⟩
  | 57 => ⟨S4096x16, .f32⟩
  | 58 => ⟨S4096x16, .f32⟩
  | 59 => ⟨S4096x1x16, .f32⟩
  | 60 => ⟨S4096x16, .f32⟩
  | 61 => ⟨S4096x64, .f32⟩
  | 62 => ⟨S1x4096x1x64, .f32⟩
  | 63 => ⟨S1x4096x2x64, .f32⟩
  | 64 => ⟨S4096x128, .f32⟩
  | 65 => ⟨S1x4096x1x64, .f32⟩
  | 66 => ⟨S1x4096x2x64, .f32⟩
  | 67 => ⟨S4096x128, .f32⟩
  | 68 => ⟨S8x128x128, .f32⟩
  | 69 => ⟨S4x2x128x128, .f32⟩
  | 70 => ⟨S4x128x2x128, .f32⟩
  | 71 => ⟨S4x128x256, .f32⟩
  | 72 => ⟨S4x128x256, .bf16⟩
  | 73 => ⟨S16384x1024, .f32⟩
  | 74 => ⟨S1024, .f32⟩
  | 75 => ⟨S1x1024, .f32⟩
  | 76 => ⟨S1024x5632, .f32⟩
  | 77 => ⟨S1024x5632, .bf16⟩
  | 78 => ⟨S2816x1024, .f32⟩
  | 79 => ⟨S2816x1024, .bf16⟩
  | 80 => ⟨S1024, .f32⟩
  | 81 => ⟨S1x1024, .f32⟩
  | 82 => ⟨S1024x3840, .f32⟩
  | 83 => ⟨S1024x3840, .bf16⟩
  | 84 => ⟨S64, .f32⟩
  | 85 => ⟨S1x64, .f32⟩
  | 86 => ⟨S8x64, .f32⟩
  | 87 => ⟨S512, .f32⟩
  | 88 => ⟨S1x512, .f32⟩
  | 89 => ⟨S64, .f32⟩
  | 90 => ⟨S1x64, .f32⟩
  | 91 => ⟨S2x64, .f32⟩
  | 92 => ⟨S128, .f32⟩
  | 93 => ⟨S1x128, .f32⟩
  | 94 => ⟨S512, .f32⟩
  | 95 => ⟨S1x512, .f32⟩
  | 96 => ⟨S8x128, .f32⟩
  | 97 => ⟨S128x8, .f32⟩
  | 98 => ⟨S128x8x64, .f32⟩
  | 99 => ⟨S128x512, .f32⟩
  | 100 => ⟨S512x1024, .f32⟩
  | 101 => ⟨S512x1024, .bf16⟩
  | 102 => ⟨S256, .i32⟩
  | 103 => ⟨S_, .i32⟩
  | 104 => ⟨S_, .i32⟩
  | 105 => ⟨S256, .i32⟩
  | 106 => ⟨S256, .i32⟩
  | 107 => ⟨S256, .i32⟩
  | 108 => ⟨S_, .i32⟩
  | 109 => ⟨S256, .i32⟩
  | 110 => ⟨S256, .i1⟩
  | 111 => ⟨S256, .i32⟩
  | 112 => ⟨S256, .i32⟩
  | 113 => ⟨S_, .i32⟩
  | 114 => ⟨S256, .i32⟩
  | 115 => ⟨S256, .i1⟩
  | 116 => ⟨S256, .i1⟩
  | 117 => ⟨S_, .i32⟩
  | 118 => ⟨S256, .i32⟩
  | 119 => ⟨S256, .i32⟩
  | 120 => ⟨S256, .i32⟩
  | 121 => ⟨S256x1, .i32⟩
  | 122 => ⟨S1x256, .i32⟩
  | 123 => ⟨S256x256, .i32⟩
  | 124 => ⟨S256x256, .i32⟩
  | 125 => ⟨S256x256, .i1⟩
  | 126 => ⟨S256x256, .bf16⟩
  | 127 => ⟨S128, .i32⟩
  | _ => ⟨S4x4096x1024, .f32⟩

abbrev hbmTy0_1 (i : Nat) : BufTy := match i % 128 with
  | 0 => ⟨S_, .i32⟩
  | 1 => ⟨S_, .i32⟩
  | 2 => ⟨S128, .i32⟩
  | 3 => ⟨S128, .i32⟩
  | 4 => ⟨S128, .i32⟩
  | 5 => ⟨S_, .i32⟩
  | 6 => ⟨S128, .i32⟩
  | 7 => ⟨S128, .i1⟩
  | 8 => ⟨S128, .i32⟩
  | 9 => ⟨S128, .i32⟩
  | 10 => ⟨S_, .i32⟩
  | 11 => ⟨S128, .i32⟩
  | 12 => ⟨S128, .i1⟩
  | 13 => ⟨S128, .i1⟩
  | 14 => ⟨S_, .i32⟩
  | 15 => ⟨S128, .i32⟩
  | 16 => ⟨S128, .i32⟩
  | 17 => ⟨S128, .i32⟩
  | 18 => ⟨S128x1, .i32⟩
  | 19 => ⟨S1x128, .i32⟩
  | 20 => ⟨S128x128, .i32⟩
  | 21 => ⟨S128x128, .i32⟩
  | 22 => ⟨S128x128, .i1⟩
  | 23 => ⟨S128x128, .bf16⟩
  | 24 => ⟨S16384x1024, .f32⟩
  | 25 => ⟨S16384x512, .bf16⟩
  | 26 => ⟨S2x16384x128, .bf16⟩
  | 27 => ⟨S2x32x128x512, .bf16⟩
  | 28 => ⟨S16384x1024, .bf16⟩
  | 29 => ⟨S16384x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1024x3840, .bf16⟩
  | .local _ .vmem, ⟨11, _⟩ => ⟨S1x512, .f32⟩
  | .local _ .vmem, ⟨12, _⟩ => ⟨S1x128, .f32⟩
  | .local _ .vmem, ⟨13, _⟩ => ⟨S1x512, .f32⟩
  | .local _ .vmem, ⟨14, _⟩ => ⟨S4x128x256, .bf16⟩
  | .local _ .vmem, ⟨15, _⟩ => ⟨S128x512, .f32⟩
  | .local _ .vmem, ⟨16, _⟩ => ⟨S512x1024, .bf16⟩
  | .local _ .vmem, ⟨17, _⟩ => ⟨S256x256, .bf16⟩
  | .local _ .vmem, ⟨18, _⟩ => ⟨S128x128, .bf16⟩
  | .local _ .vmem, ⟨19, _⟩ => ⟨S512x1024, .f32⟩
  | .local _ .vmem, ⟨20, _⟩ => ⟨S512x1024, .f32⟩
  | .local _ .vmem, ⟨21, _⟩ => ⟨S512x512, .bf16⟩
  | .local _ .vmem, ⟨22, _⟩ => ⟨S512x512, .bf16⟩
  | .local _ .vmem, ⟨23, _⟩ => ⟨S2x512x128, .bf16⟩
  | .local _ .vmem, ⟨24, _⟩ => ⟨S2x512x128, .bf16⟩
  | .local _ .vmem, ⟨25, _⟩ => ⟨S2x1x128x512, .bf16⟩
  | .local _ .vmem, ⟨26, _⟩ => ⟨S2x1x128x512, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_c : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_v5 : Ref sig .tc := ⟨.hbm, 109, rfl⟩
abbrev main_call0_v6 : Ref sig .tc := ⟨.hbm, 110, rfl⟩
abbrev main_call0_v7 : Ref sig .tc := ⟨.hbm, 111, rfl⟩
abbrev main_call0_v8 : Ref sig .tc := ⟨.hbm, 112, rfl⟩
abbrev main_call0_c : Ref sig .tc := ⟨.hbm, 113, rfl⟩
abbrev main_call0_v9 : Ref sig .tc := ⟨.hbm, 114, rfl⟩
abbrev main_call0_v10 : Ref sig .tc := ⟨.hbm, 115, rfl⟩
abbrev main_call0_v11 : Ref sig .tc := ⟨.hbm, 116, rfl⟩
abbrev main_call0_c_0 : Ref sig .tc := ⟨.hbm, 117, rfl⟩
abbrev main_call0_v12 : Ref sig .tc := ⟨.hbm, 118, rfl⟩
abbrev main_call0_v13 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_1 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_v7 : Ref sig .tc := ⟨.hbm, 136, rfl⟩
abbrev main_call1_v8 : Ref sig .tc := ⟨.hbm, 137, rfl⟩
abbrev main_call1_c : Ref sig .tc := ⟨.hbm, 138, rfl⟩
abbrev main_call1_v9 : Ref sig .tc := ⟨.hbm, 139, rfl⟩
abbrev main_call1_v10 : Ref sig .tc := ⟨.hbm, 140, rfl⟩
abbrev main_call1_v11 : Ref sig .tc := ⟨.hbm, 141, rfl⟩
abbrev main_call1_c_0 : Ref sig .tc := ⟨.hbm, 142, rfl⟩
abbrev main_call1_v12 : Ref sig .tc := ⟨.hbm, 143, rfl⟩
abbrev main_call1_v13 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104_0 : Ref sig .tc := ⟨.hbm, 152, rfl⟩
abbrev main_v104_1 : Ref sig .tc := ⟨.hbm, 153, rfl⟩
abbrev main_v104_2 : Ref sig .tc := ⟨.hbm, 154, rfl⟩
abbrev main_v104_3 : Ref sig .tc := ⟨.hbm, 155, rfl⟩
abbrev main_v104_4 : Ref sig .tc := ⟨.hbm, 156, rfl⟩
abbrev main_v104_5 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3840 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x1x128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3840 : Shape := ⟨3, ![1, 1024, 3840]⟩
abbrev S1x64 : Shape := ⟨2, ![1, 64]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩
abbrev S1024x3840 : Shape := ⟨2, ![1024, 3840]⟩
abbrev S16384x3840 : Shape := ⟨2, ![16384, 3840]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024x3840, .f32⟩
  | .hbm, ⟨6, _⟩ => ⟨S1x64, .f32⟩
  | .hbm, ⟨7, _⟩ => ⟨S1x64, .f32⟩
  | .hbm, ⟨8, _⟩ => ⟨S1x512, .f32⟩
  | .hbm, ⟨9, _⟩ => ⟨S1x8x128x128, .f32⟩
  | .hbm, ⟨10, _⟩ => ⟨S1x8x128, .f32⟩
  | .hbm, ⟨11, _⟩ => ⟨S1x512x1024, .f32⟩
  | .hbm, ⟨12, _⟩ => ⟨S16384x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1024x5632, .f32⟩
  | .hbm, ⟨31, _⟩ => ⟨S2816x1024, .f32⟩
  | .hbm, ⟨32, _⟩ => ⟨S16384x5632, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S1024x3840, .f32⟩
  | .hbm, ⟨68, _⟩ => ⟨S16384x3840, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384x1024, .f32⟩
  | .hbm, ⟨77, _⟩ => ⟨S16384x1024, .f32⟩
  | .hbm, ⟨78, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_cst_7 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== Proof.BodyRun.lean ====
/-
  One launch of the attention body, run symbolically: what it leaves in the result's block, as pieces that the run
  finds, in the two cases of the test of the bound.
-/
module

public import proofs.«01_k».proof.Proof.Gen.KernelIdeal.Loops

@[expose] public section
set_option maxRecDepth 16384
set_option maxHeartbeats 8000000
noncomputable section
namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]

local notation "𝕄G" => MT nD τ sig Unit (Elt F) ℕ (UR sig nD τ) ℕ

/-- The body's test of the bound: is it above 50? -/
abbrev big (b : Elt F .f32) : BitVec 1 :=
  Scalar.cmpi .ne ((Scalar.extui (Scalar.cmpf .ogt b (Scalar.ofBits .f32 0x42480000#32)) : BitVec 32)) 0#32

/-- A buffer, whole, at contents `f`. -/
abbrev at_ {sp : Space} {s : Shape} {e : EltTy} (c : Dev nD) (a : Memref sig .tc sp s e) (f : BufTy.Contents (Elt F) a.view.ty) : sProp 𝕄G :=
  (a.view.loc (c : Thread nD τ) ↦[a.view.set]{fullShare} f)

/-- The four operands' buffers at their contents. -/
abbrev Ins (c : Dev nD) (arg3 : Memref sig .tc .smem S1 .f32) (arg4 : Memref sig .tc .vmem S2048x256 .f32) (arg5 : Memref sig .tc .vmem S1x4096x128 .bf16) (arg6 : Memref sig .tc .vmem S1x8x128x512 .bf16)
    (X3 : BufTy.Contents (Elt F) arg3.view.ty) (X4 : BufTy.Contents (Elt F) arg4.view.ty) (X5 : BufTy.Contents (Elt F) arg5.view.ty) (X6 : BufTy.Contents (Elt F) arg6.view.ty) : sProp 𝕄G :=
  iprop(at_ c arg3 X3 ∗ at_ c arg4 X4 ∗ at_ c arg5 X5 ∗ at_ c arg6 X6)

/-- The body where the bound is not above 50: the pieces it leaves in the result's block, from what it finds in its
    scratch. -/
@[irreducible] def runLo (𝒱 : Variants) (c : Dev nD) (bd : Option 𝒱.V) (i : grid0.Coords) (arg3 : Memref sig .tc .smem S1 .f32) (harg3 : arg3.IsWhole) (arg4 : Memref sig .tc .vmem S2048x256 .f32) (harg4 : arg4.IsWhole) (arg5 : Memref sig .tc .vmem S1x4096x128 .bf16) (harg5 : arg5.IsWhole) (arg6 : Memref sig .tc .vmem S1x8x128x512 .bf16) (harg6 : arg6.IsWhole) (arg7 : Memref sig .tc .vmem S2048x256 .bf16) (harg7 : arg7.IsWhole) (arg8 : Memref sig .tc .vmem S8x1024x128 .bf16) (harg8 : arg8.IsWhole) (arg9 : Memref sig .tc .vmem S8x1x1024 .f32) (harg9 : arg9.IsWhole) (arg10 : Memref sig .tc .vmem S8x128x1024 .f32) (harg10 : arg10.IsWhole) (arg11 : Memref sig .tc .vmem S2x512x1024 .bf16) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty)
    (hc : ¬ (big (arg3.view.readAt (Elt F) (Rect.unit (s := S1) ![0] S1.size inb_S1_S1_0).toLoadRect X3 (Shape.Idx.first (s := S1) (numel1_S1.symm ▸ Nat.one_pos))) = 1#1)) :
    { L7 : BufTy.Contents (Elt F) arg8.view.ty → BufTy.Contents (Elt F) arg9.view.ty → BufTy.Contents (Elt F) arg10.view.ty → BufTy.Contents (Elt F) arg11.view.ty → List (View.Piece (Elt F) S2048x256 .bf16) //
      ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
      iprop(Ins c arg3 arg4 arg5 arg6 X3 X4 X5 X6 ∗ at_ c arg7 f7 ∗ at_ c arg8 f8 ∗ at_ c arg9 f9 ∗ at_ c arg10 f10 ∗ at_ c arg11 f11)
      ⊢ wp frame (wpE (defs₀ (F := F)) 𝒱 (c : Thread nD τ) bd) E (cc0_attn (F := F) i arg3 harg3 arg4 harg4 arg5 harg5 arg6 harg6 arg7 harg7 arg8 harg8 arg9 harg9 arg10 harg10 arg11 harg11)
          (fun _ => iprop(Ins c arg3 arg4 arg5 arg6 X3 X4 X5 X6 ∗ at_ c arg7 (arg7.view.writes (Elt F) f7 (L7 f8 f9 f10 f11)) ∗ (∃ g, at_ c arg8 g) ∗ (∃ g, at_ c arg9 g) ∗ (∃ g, at_ c arg10 g) ∗ (∃ g, at_ c arg11 g))) } := by
  refine ⟨?_, fun E f7 f8 f9 f10 f11 => ?run⟩
  case run =>
    simp only [cc0_attn_eq_skeleton]; unfold cc0_attn_skel; simp only [k0_part57_eq_skeleton]; unfold k0_part57_skel
    iintro ⟨⟨H3, H4, H5, H6⟩, H7, H8, H9, H10, H11⟩
    sl_exec (disch := exact hc)
    rw [bind_assoc]
    sl_exec
    sl_step
    sl_close

/-- The body where the bound is above 50: the pieces it leaves in the result's block, from what it finds in its
    scratch. -/
@[irreducible] def runHi (𝒱 : Variants) (c : Dev nD) (bd : Option 𝒱.V) (i : grid0.Coords) (arg3 : Memref sig .tc .smem S1 .f32) (harg3 : arg3.IsWhole) (arg4 : Memref sig .tc .vmem S2048x256 .f32) (harg4 : arg4.IsWhole) (arg5 : Memref sig .tc .vmem S1x4096x128 .bf16) (harg5 : arg5.IsWhole) (arg6 : Memref sig .tc .vmem S1x8x128x512 .bf16) (harg6 : arg6.IsWhole) (arg7 : Memref sig .tc .vmem S2048x256 .bf16) (harg7 : arg7.IsWhole) (arg8 : Memref sig .tc .vmem S8x1024x128 .bf16) (harg8 : arg8.IsWhole) (arg9 : Memref sig .tc .vmem S8x1x1024 .f32) (harg9 : arg9.IsWhole) (arg10 : Memref sig .tc .vmem S8x128x1024 .f32) (harg10 : arg10.IsWhole) (arg11 : Memref sig .tc .vmem S2x512x1024 .bf16) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty)
    (hc :  (big (arg3.view.readAt (Elt F) (Rect.unit (s := S1) ![0] S1.size inb_S1_S1_0).toLoadRect X3 (Shape.Idx.first (s := S1) (numel1_S1.symm ▸ Nat.one_pos))) = 1#1)) :
    { L7 : BufTy.Contents (Elt F) arg8.view.ty → BufTy.Contents (Elt F) arg9.view.ty → BufTy.Contents (Elt F) arg10.view.ty → BufTy.Contents (Elt F) arg11.view.ty → List (View.Piece (Elt F) S2048x256 .bf16) //
      ∀ (E : Set ℕ) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty),
      iprop(Ins c arg3 arg4 arg5 arg6 X3 X4 X5 X6 ∗ at_ c arg7 f7 ∗ at_ c arg8 f8 ∗ at_ c arg9 f9 ∗ at_ c arg10 f10 ∗ at_ c arg11 f11)
      ⊢ wp frame (wpE (defs₀ (F := F)) 𝒱 (c : Thread nD τ) bd) E (cc0_attn (F := F) i arg3 harg3 arg4 harg4 arg5 harg5 arg6 harg6 arg7 harg7 arg8 harg8 arg9 harg9 arg10 harg10 arg11 harg11)
          (fun _ => iprop(Ins c arg3 arg4 arg5 arg6 X3 X4 X5 X6 ∗ at_ c arg7 (arg7.view.writes (Elt F) f7 (L7 f8 f9 f10 f11)) ∗ (∃ g, at_ c arg8 g) ∗ (∃ g, at_ c arg9 g) ∗ (∃ g, at_ c arg10 g) ∗ (∃ g, at_ c arg11 g))) } := by
  refine ⟨?_, fun E f7 f8 f9 f10 f11 => ?run⟩
  case run =>
    simp only [cc0_attn_eq_skeleton]; unfold cc0_attn_skel; simp only [k0_part57_eq_skeleton]; unfold k0_part57_skel
    iintro ⟨⟨H3, H4, H5, H6⟩, H7, H8, H9, H10, H11⟩
    sl_exec (disch := exact hc)
    rw [bind_assoc]
    sl_exec
    sl_step
    sl_close

end Cert.KernelIdeal.Run
end
-- ==== Proof.AnyRun.lean ====
/-
  The run of the attention call without its values: from any memory with its counters at zero the program ends, its
  arguments are as they were and every counter is at zero. The result's block is forgotten.
-/
module

public import proofs.«01_k».proof.Proof.BodyRun
public import proofs.«01_k».proof.Proof.Gen.KernelIdeal.Frame

@[expose] public section
set_option maxRecDepth 16384
set_option maxHeartbeats 800000
noncomputable section
namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
variable {F : FTy → Type} [FloatOps F] [Named F]

local notation "𝕄G" => MT nD τ sig Unit (Elt F) ℕ (UR sig nD τ) ℕ

theorem whole_in (c : Dev nD) (b : Ref sig .tc) (f : b.ty.Contents (Elt F)) :
    ((c : Thread nD τ).loc b ↦{fullShare} f : sProp 𝕄G) ⊢ at_ c (Memref.whole b) f := by
  delta at_; simp only [Memref.view_whole, View.set_whole]; exact .rfl
theorem whole_out (c : Dev nD) (b : Ref sig .tc) (f : b.ty.Contents (Elt F)) :
    (at_ c (Memref.whole b) f : sProp 𝕄G) ⊢ ((c : Thread nD τ).loc b ↦{fullShare} f) := by
  delta at_; simp only [Memref.view_whole, View.set_whole]; exact .rfl

/-- The body in either case: it gives back its operands, and its result's block and scratch at something. -/
theorem body_any (c : Dev nD) (i : grid0.Coords) (arg3 : Memref sig .tc .smem S1 .f32) (harg3 : arg3.IsWhole) (arg4 : Memref sig .tc .vmem S2048x256 .f32) (harg4 : arg4.IsWhole) (arg5 : Memref sig .tc .vmem S1x4096x128 .bf16) (harg5 : arg5.IsWhole) (arg6 : Memref sig .tc .vmem S1x8x128x512 .bf16) (harg6 : arg6.IsWhole) (arg7 : Memref sig .tc .vmem S2048x256 .bf16) (harg7 : arg7.IsWhole) (arg8 : Memref sig .tc .vmem S8x1024x128 .bf16) (harg8 : arg8.IsWhole) (arg9 : Memref sig .tc .vmem S8x1x1024 .f32) (harg9 : arg9.IsWhole) (arg10 : Memref sig .tc .vmem S8x128x1024 .f32) (harg10 : arg10.IsWhole) (arg11 : Memref sig .tc .vmem S2x512x1024 .bf16) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) :
      iprop(Ins c arg3 arg4 arg5 arg6 X3 X4 X5 X6 ∗ at_ c arg7 f7 ∗ at_ c arg8 f8 ∗ at_ c arg9 f9 ∗ at_ c arg10 f10 ∗ at_ c arg11 f11)
      ⊢ wp frame (wpE (defs₀ (F := F)) Variants.none (c : Thread nD τ) none) Set.univ (cc0_attn (F := F) i arg3 harg3 arg4 harg4 arg5 harg5 arg6 harg6 arg7 harg7 arg8 harg8 arg9 harg9 arg10 harg10 arg11 harg11)
          (fun _ => (iprop(Ins c arg3 arg4 arg5 arg6 X3 X4 X5 X6 ∗ (∃ g, at_ c arg7 g) ∗ (∃ g, at_ c arg8 g) ∗ (∃ g, at_ c arg9 g) ∗ (∃ g, at_ c arg10 g) ∗ (∃ g, at_ c arg11 g)) : sProp 𝕄G)) := by
  have weaken : ∀ L : List (View.Piece (Elt F) S2048x256 .bf16),
      (iprop(Ins c arg3 arg4 arg5 arg6 X3 X4 X5 X6 ∗ at_ c arg7 (arg7.view.writes (Elt F) f7 L) ∗ (∃ g, at_ c arg8 g) ∗ (∃ g, at_ c arg9 g) ∗ (∃ g, at_ c arg10 g) ∗ (∃ g, at_ c arg11 g)) : sProp 𝕄G)
      ⊢ iprop(Ins c arg3 arg4 arg5 arg6 X3 X4 X5 X6 ∗ (∃ g, at_ c arg7 g) ∗ (∃ g, at_ c arg8 g) ∗ (∃ g, at_ c arg9 g) ∗ (∃ g, at_ c arg10 g) ∗ (∃ g, at_ c arg11 g)) := fun L => by
    iintro ⟨HI, H7, HS⟩
    isplitl [HI]; · iexact HI
    isplitl [H7]; · iexists _; iexact H7
    iexact HS
  by_cases hc : big (arg3.view.readAt (Elt F) (Rect.unit (s := S1) ![0] S1.size inb_S1_S1_0).toLoadRect X3 (Shape.Idx.first (s := S1) (numel1_S1.symm ▸ Nat.one_pos))) = 1#1
  · exact triple_restated ((runHi Variants.none c none i arg3 harg3 arg4 harg4 arg5 harg5 arg6 harg6 arg7 harg7 arg8 harg8 arg9 harg9 arg10 harg10 arg11 harg11 X3 X4 X5 X6 hc).2 Set.univ f7 f8 f9 f10 f11) rfl .rfl fun _ => weaken _
  · exact triple_restated ((runLo Variants.none c none i arg3 harg3 arg4 harg4 arg5 harg5 arg6 harg6 arg7 harg7 arg8 harg8 arg9 harg9 arg10 harg10 arg11 harg11 X3 X4 X5 X6 hc).2 Set.univ f7 f8 f9 f10 f11) rfl .rfl fun _ => weaken _

variable (m : (ℓ : Loc nD τ sig) → Buf (Elt F) ℓ) (ρ : Dev nD → PrngReg)

/-- The launch's data: the arrays as the host left them; each operand's block in place, the result's forgotten. -/
def anyDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed (cfg := cfg0) 4 t
  Φ _ := Pipeline.ΦA spec0 c
  q _ := fullShare
  owed _ := 0

theorem anyDats_A (c : Dev nD) (w : Fin cfg0.W) : (anyDats m 0 c).A w = V m c (Pipeline.arrRef spec0 w) := by
  dsimp only [anyDats]

/-- The result's window is the one forgotten. -/
def fgt : Fin cfg0.W → Bool := ![false, false, false, false, true]

/-- The body at a grid point: its operands' blocks in, its operands' blocks out. -/
theorem any_point (c : Dev nD) (t : Fin cfg0.N) :
    (iprop((anyDats m 0 c).Φ t.castSucc ∗ (anyDats m 0 c).owesAt () t.castSucc
      ∗ (∃ d, owns (c : Thread nD τ) (st0_0 t) fullShare ((anyDats m 0 c).before 0 t d))
      ∗ (∃ d, owns (c : Thread nD τ) (st0_1 t) fullShare ((anyDats m 0 c).before 1 t d))
      ∗ (∃ d, owns (c : Thread nD τ) (st0_2 t) fullShare ((anyDats m 0 c).before 2 t d))
      ∗ (∃ d, owns (c : Thread nD τ) (st0_3 t) fullShare ((anyDats m 0 c).before 3 t d))
      ∗ (∃ d, owns (c : Thread nD τ) (st0_4 t) fullShare d)) : sProp 𝕄G)
    ⊢ wp frame (wpE (defs₀ (F := F)) Variants.none (c : Thread nD τ) none) Set.univ (bodyAt0 t)
      (fun _ => iprop((anyDats m 0 c).Φ t.succ ∗ (anyDats m 0 c).owesAt () t.succ
        ∗ owns (c : Thread nD τ) (st0_0 t) fullShare ((anyDats m 0 c).after 0 t)
        ∗ owns (c : Thread nD τ) (st0_1 t) fullShare ((anyDats m 0 c).after 1 t)
        ∗ owns (c : Thread nD τ) (st0_2 t) fullShare ((anyDats m 0 c).after 2 t)
        ∗ owns (c : Thread nD τ) (st0_3 t) fullShare ((anyDats m 0 c).after 3 t)
        ∗ (∃ d, owns (c : Thread nD τ) (st0_4 t) fullShare d))) := by
  rw [show (anyDats m 0 c).owesAt () t.succ = (anyDats m 0 c).owesAt () t.castSucc from rfl,
    show (anyDats m 0 c).Φ t.succ = Pipeline.ΦA spec0 c from rfl,
    show (anyDats m 0 c).Φ t.castSucc = Pipeline.ΦA spec0 c from rfl]
  simp only [before0_0_of m (anyDats m 0 c) (anyDats_A m c 0) (fun _ => rfl) t,
    before0_1_of m (anyDats m 0 c) (anyDats_A m c 1) (fun _ => rfl) t,
    before0_2_of m (anyDats m 0 c) (anyDats_A m c 2) (fun _ => rfl) t,
    before0_3_of m (anyDats m 0 c) (anyDats_A m c 3) (fun _ => rfl) t]
  rw [show (anyDats m 0 c).after 0 t = iblk m c 0 t from rfl, show (anyDats m 0 c).after 1 t = iblk m c 1 t from rfl,
    show (anyDats m 0 c).after 2 t = iblk m c 2 t from rfl, show (anyDats m 0 c).after 3 t = iblk m c 3 t from rfl]
  unfold Pipeline.ΦA
  rw [scopedRest0_eq]
  unfold owns
  iintro ⟨⟨⟨⟨%g8, H8⟩, ⟨%g9, H9⟩, ⟨%g10, H10⟩, ⟨%g11, H11⟩⟩, Hg⟩, Ho, ⟨%d0, %f3, %h3, H3⟩, ⟨%d1, %f4, %h4, H4⟩, ⟨%d2, %f5, %h5, H5⟩, ⟨%d3, %f6, %h6, H6⟩, ⟨%d4, %f7, %h7, H7⟩⟩
  iapply (wp_wand_r Idealize.ShloMosaic.frame (wpE (defs₀ (F := F)) Variants.none (c : Thread nD τ) none) Set.univ)
  isplitl [H3 H4 H5 H6 H7 H8 H9 H10 H11]
  · iapply (body_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) f3 f4 f5 f6 f7 g8 g9 g10 g11)
    isplitl [H3 H4 H5 H6]
    · isplitl [H3]; · iexact H3
      isplitl [H4]; · iexact H4
      isplitl [H5]; · iexact H5
      iexact H6
    isplitl [H7]; · iexact H7
    isplitl [H8]; · iapply (whole_in c cc0_scratch0 g8); iexact H8
    isplitl [H9]; · iapply (whole_in c cc0_scratch1 g9); iexact H9
    isplitl [H10]; · iapply (whole_in c cc0_scratch2 g10); iexact H10
    iapply (whole_in c cc0_scratch3 g11); iexact H11
  iintro %_ ⟨⟨H3, H4, H5, H6⟩, ⟨%e7, H7⟩, ⟨%e8, H8⟩, ⟨%e9, H9⟩, ⟨%e10, H10⟩, ⟨%e11, H11⟩⟩
  isplitl [H8 H9 H10 H11 Hg]
  · isplitl [H8 H9 H10 H11]
    · isplitl [H8]; · iexists e8; iapply (whole_out c cc0_scratch0 e8); iexact H8
      isplitl [H9]; · iexists e9; iapply (whole_out c cc0_scratch1 e9); iexact H9
      isplitl [H10]; · iexists e10; iapply (whole_out c cc0_scratch2 e10); iexact H10
      iexists e11; iapply (whole_out c cc0_scratch3 e11); iexact H11
    iexact Hg
  isplitl [Ho]; · iexact Ho
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  iexists _; iexists e7; isplitr; · ipureintro; rfl
  iexact H7

/-- The program's row for the body, at a point's buffers, is the body. -/
theorem row (t : Fin cfg0.N) : defs₀ (F := F) .tc cfg0.body (cfg0.bodyArgs t (cfg0.slots t)) = bodyAt0 t := by
  unfold defs₀; rw [Defs.onTc_tc]

theorem any_body (c : Dev nD) : BodyObligationLoose (anyDats (F := F) m 0 c) (defs₀ (F := F)) Variants.none () Set.univ fgt := fun t => by
  rw [bigSep_W0, bigSep_W0, row]
  exact triple_restated (any_point m c t) rfl .rfl fun _ => .rfl

set_option backward.isDefEq.respectTransparency.types false in
/-- The run, with the counters. -/
theorem any_run : θ_run defs (onTc (τ := τ) (main (F := F))) (s₀ m ρ)
    (fun r => Pipeline.RDat.FramePost cfg0 (fun c => (anyDats m 0 c).toRForget fgt) (V m) r ∧ r.2.sem = fun _ => 0) :=
  Pipeline.θ_run_frame_forget (Q' := _) cfgs (anyDats m) (0 : Fin 1) launch0 defs₀ Variants.none fgt m ρ main
    (hbody := fun c => any_body m c) (hshare := fun c => (anyDats m 0 c).share_full fun _ => rfl)
    (howed := fun _ _ => rfl) (V := V m) (hmain := hmain m Variants.none) (hA := anyDats_A m)
    (hΦ := fun _ _ => rfl)

/-- The arguments end as they were and every counter at zero. -/
theorem any_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨
      ((Pipeline.Dat.toRForget_arrAt_iff (dat := anyDats m 0 c) (fgt := fgt) (w := 0) rfl _ _).mp ((h.1 c).1 0)).trans
        (((anyDats m 0 c).arrAt_in 0 rfl _).trans ((anyDats_A m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (any_run m ρ)

end Cert.KernelIdeal.Run
end
-- ==== Proof.RefRun.lean ====
/-
  The reference: its run, and the result as one term over the arguments.
-/
module

public import proofs.«01_k».proof.Defs
public import proofs.«01_k».proof.Proof.Gen.ReferenceIdeal
public import Idealize.ShloMosaic.Lib.Pipeline.ValueKit
public import Idealize.ShloMosaic.Lib.Quiescent

@[expose] public section
set_option maxRecDepth 16384
set_option maxHeartbeats 1600000
noncomputable section
namespace Cert.ReferenceIdeal.Run
open Cert.ReferenceIdeal Cert.ReferenceIdeal.Gen
open Idealize.ShloMosaic Idealize.ShloMosaic.TcCoe Idealize.ShloMosaic.Tactic
open Idealize.SL Idealize.SL.Sem

/-- The arguments end unchanged. -/
theorem args (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run

theorem frame : @Cert.quiescent_ReferenceIdeal Cert.ReferenceIdeal.Gen.facts := fun m ρ _ =>
  (θ_run defs _ _).mono (fun r h => ⟨h, Idealize.ShloMosaic.sem_eq_zero_of_no_sems (by decide) r.2⟩) (args m ρ)

end Cert.ReferenceIdeal.Run
end
-- ==== Proof.Soft.lean ====
/-
  The mathematics of the softmax, on the extended reals: weights in powers of two, shifted by any real number and divided
  by their sum at the end, are the weights in powers of e, shifted by another and divided each.
-/
module

public import Idealize.ShloMosaic.Lib.Pointwise
public import Idealize.ShloMosaic.Lib.Pipeline.ValueKit

@[expose] public section
set_option maxRecDepth 16384
set_option maxHeartbeats 400000
noncomputable section
namespace Cert.Soft
open Idealize.ShloMosaic

/-- A sum of reals, taken in the extended reals. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A sum times a real that is not negative, term by term. -/
theorem sum_mul_real {ι : Type} (t : Finset ι) (f : ι → EReal) (r : ℝ) (hr : 0 ≤ r) : (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (by exact_mod_cast hr) (EReal.coe_ne_top r) _ _

/-- A power of two of a difference, by the exponential. -/
theorem exp2_sub (s s' c m : ℝ) (h : s * Real.log 2 = s') :
    Ideal.exp2 ((s : EReal) - (c : EReal)) = ((Real.exp (s' - m) * Real.exp (m - c * Real.log 2) : ℝ) : EReal) := by
  rw [← EReal.coe_sub, Ideal.exp2_coe, ← Real.exp_add]
  congr 1
  show (2 : ℝ) ^ (s - c) = _
  rw [Real.rpow_def_of_pos (by norm_num)]
  congr 1
  rw [← h]; ring

theorem exp_sub (s m : ℝ) : Ideal.exp ((s : EReal) - (m : EReal)) = ((Real.exp (s - m) : ℝ) : EReal) := by
  rw [← EReal.coe_sub, Ideal.exp_coe]

/-- THE SOFTMAX: the quotient of the two sums of powers of two is the sum of the values times their weights. -/
theorem softmax {n : ℕ} (hn : 0 < n) (v : Fin n → EReal) (s s' : Fin n → ℝ) (c m : ℝ) (h : ∀ i, s i * Real.log 2 = s' i) :
    Ideal.div (∑ i, v i * Ideal.exp2 ((s i : EReal) - (c : EReal))) (∑ i, 1 * Ideal.exp2 ((s i : EReal) - (c : EReal)))
      = ∑ i, v i * Ideal.div (Ideal.exp ((s' i : EReal) - (m : EReal))) (∑ k, Ideal.exp ((s' k : EReal) - (m : EReal))) := by
  haveI : Nonempty (Fin n) := ⟨⟨0, hn⟩⟩
  have hW : 0 < ∑ i, Real.exp (s' i - m) := Finset.sum_pos (fun i _ => Real.exp_pos _) Finset.univ_nonempty
  have hK : 0 < Real.exp (m - c * Real.log 2) := Real.exp_pos _
  have e (i) := exp2_sub (s i) (s' i) c m (h i)
  simp only [e, exp_sub, one_mul, coe_sum]
  rw [← Finset.sum_mul]
  simp only [Ideal.div_coe (mul_pos hW hK).ne', Ideal.div_coe hW.ne']
  rw [sum_mul_real _ _ _ (by positivity)]
  refine Finset.sum_congr rfl fun i _ => ?_
  rw [mul_assoc, ← EReal.coe_mul, ← EReal.coe_mul]
  congr 2
  field_simp

/-- The score of key `s`: the product of key and query, by an eighth. -/
def score {n : ℕ} (k : Fin n → Fin 64 → ℝ) (q : Fin 64 → ℝ) (s : Fin n) : ℝ := (∑ d, k s d * q d) * (1 / 8)

/-- Softmax attention of one query: the values, weighted by the exponentials of the scores over their sum. -/
def att {n : ℕ} (k : Fin n → Fin 64 → ℝ) (v : Fin n → EReal) (q : Fin 64 → ℝ) : EReal :=
  ∑ s, v s * Ideal.div (Ideal.exp ((score k q s : EReal) - ((0 : ℝ) : EReal))) (∑ t, Ideal.exp ((score k q t : EReal) - ((0 : ℝ) : EReal)))

/-- With powers of two, and any shift. -/
theorem att_exp2 {n : ℕ} (hn : 0 < n) (k : Fin n → Fin 64 → ℝ) (v : Fin n → EReal) (q : Fin 64 → ℝ) (c : ℝ) :
    Ideal.div (∑ s, v s * Ideal.exp2 ((((∑ d, k s d * q d) * (8 * Real.log 2)⁻¹ : ℝ) : EReal) - (c : EReal)))
      (∑ s, 1 * Ideal.exp2 ((((∑ d, k s d * q d) * (8 * Real.log 2)⁻¹ : ℝ) : EReal) - (c : EReal))) = att k v q :=
  softmax hn v _ (score k q) c 0 fun s => by
    have : Real.log 2 ≠ 0 := (Real.log_pos (by norm_num)).ne'
    unfold score; field_simp

/-- With the exponentials shifted by any amount. -/
theorem att_exp {n : ℕ} (hn : 0 < n) (k : Fin n → Fin 64 → ℝ) (v : Fin n → EReal) (q : Fin 64 → ℝ) (m : ℝ) :
    ∑ s, v s * Ideal.div (Ideal.exp ((score k q s : EReal) - (m : EReal))) (∑ t, Ideal.exp ((score k q t : EReal) - (m : EReal))) = att k v q := by
  have h : ∀ s, score k q s / Real.log 2 * Real.log 2 = score k q s := fun s => div_mul_cancel₀ _ (Real.log_pos (by norm_num)).ne'
  rw [← softmax hn v (fun s => score k q s / Real.log 2) (score k q) 0 m h, softmax hn v (fun s => score k q s / Real.log 2) (score k q) 0 0 h, att]

end Cert.Soft
end
-- ==== Proof.Pays.lean ====
/-
  The stored values of the body, each read at an index.
-/
module

public import proofs.«01_k».proof.Proof.Gen.KernelIdeal.Skeleton
public import Idealize.ShloMosaic.Lib.Pointwise

@[expose] public section
set_option maxRecDepth 16384
set_option maxHeartbeats 400000
noncomputable section
namespace Cert.KernelIdeal.Val
open Cert.KernelIdeal Cert.KernelIdeal.Gen
open Idealize.ShloMosaic Idealize.ShloMosaic.TcCoe Idealize.ShloMosaic.Tactic
open Idealize.SL.Sem

/-- log2(e) / 8. -/
def scale : ℝ := (8 * Real.log 2)⁻¹

/-- A weight: the power of two of the score less the shift. -/
theorem pay196_at (K : FVec Ideal S1x512x128 .bf16) (Q : FVec Ideal S1x256x128 .bf16) (C : FVec Ideal S1x1x256 .f32) (s : Fin 512) (r : Fin 256) :
    k0_pay196 (F := Ideal) K Q C (ix3 0 s r) = Ideal.exp2 ((∑ k : Fin 128, K (ix3 0 s k) * Q (ix3 0 r k)) - C (ix3 0 0 r)) := by
  pointwise [k0_pay196]
  rfl

/-- A key tile's addition to an accumulator. -/
theorem pay197_at (A : FVec Ideal S1x128x256 .f32) (V : FVec Ideal S1x1x128x512 .bf16) (P : FVec Ideal S1x512x256 .bf16) (w : Fin 128) (r : Fin 256) :
    k0_pay197 (F := Ideal) A V P (ix3 0 w r) = A (ix3 0 w r) + ∑ s : Fin 512, V (ix4 0 0 w s) * P (ix3 0 s r) := by
  pointwise [k0_pay197]

/-- The result of the first two heads. -/
theorem pay2_at (R : FVec Ideal S1x128x1024 .f32) (p : Fin 256) (d : Fin 128) :
    k0_pay2 (F := Ideal) R (ix2 p d) = Ideal.div (R (ix3 0 ⟨d.val % 64, by omega⟩ ⟨256 * (d.val / 64) + p.val, by omega⟩)) (R (ix3 0 64 ⟨256 * (d.val / 64) + p.val, by omega⟩)) := by
  pointwise [k0_pay2, k0_pay1]
  by_cases h : d.val < 64
  · have h1 : d.val % 64 = d.val := by omega
    have h2 : d.val / 64 = 0 := by omega
    simp only [dif_pos h, h1, h2, Nat.mul_zero, Nat.zero_add]
  · have h1 : d.val % 64 = d.val - 64 := by omega
    have h2 : d.val / 64 = 1 := by omega
    simp only [dif_neg h, h1, h2, Nat.mul_one]

/-- The result of the last two heads. -/
theorem pay3_at (R : FVec Ideal S1x128x1024 .f32) (p : Fin 256) (d : Fin 128) :
    k0_pay3 (F := Ideal) R (ix2 p d) = Ideal.div (R (ix3 0 ⟨d.val % 64, by omega⟩ ⟨512 + 256 * (d.val / 64) + p.val, by omega⟩)) (R (ix3 0 64 ⟨512 + 256 * (d.val / 64) + p.val, by omega⟩)) := by
  pointwise [k0_pay3, k0_pay1]
  by_cases h : d.val < 64
  · have h1 : d.val % 64 = d.val := by omega
    have h2 : d.val / 64 = 0 := by omega
    simp only [dif_pos h, h1, h2, Nat.mul_zero, Nat.zero_add, Nat.add_zero]
  · have h1 : d.val % 64 = d.val - 64 := by omega
    have h2 : d.val / 64 = 1 := by omega
    simp only [dif_neg h, h1, h2, Nat.mul_one, Nat.reduceAdd]

theorem lanes_lt : ∀ l : Fin 128, IntOp.cmpi CmpIPredicate.slt (BitVec.ofNat 32 l.val) 64#32 = if l.val < 64 then 1#1 else 0#1 := by decide
theorem lanes_ge : ∀ l : Fin 128, IntOp.cmpi CmpIPredicate.sge (BitVec.ofNat 32 l.val) 64#32 = if l.val < 64 then 0#1 else 1#1 := by decide

/-- The scaled queries of an even head. -/
theorem pay186_at (x : FVec Ideal S256x128 .f32) (p : Fin 256) (l : Fin 128) :
    k0_pay186 (F := Ideal) (iota .tc S256x128 32 [1] iota_S256x128_d1_w32) x (ix3 0 p l) = if l.val < 64 then x (ix2 p l) * (scale : EReal) else 0 := by
  pointwise [k0_pay186]
  rw [IdealRules.named_const.ideal_named_scalar _ _ _ _ rfl, lanes_lt l]
  by_cases h : l.val < 64
  · rw [if_pos h, if_pos h]; rfl
  · rw [if_neg h, if_neg h]; rfl

/-- The scaled queries of an odd head. -/
theorem pay185_at (x : FVec Ideal S256x128 .f32) (p : Fin 256) (l : Fin 128) :
    k0_pay185 (F := Ideal) (iota .tc S256x128 32 [1] iota_S256x128_d1_w32) x (ix3 0 p l) = if l.val < 64 then 0 else x (ix2 p l) * (scale : EReal) := by
  pointwise [k0_pay185]
  rw [IdealRules.named_const.ideal_named_scalar _ _ _ _ rfl, lanes_ge l]
  by_cases h : l.val < 64
  · rw [if_pos h, if_pos h]; rfl
  · rw [if_neg h, if_neg h]; rfl

/-- A real number among the extended reals. -/
def IsR (x : EReal) : Prop := ∃ r : ℝ, x = (r : EReal)

theorem IsR.mul {x y : EReal} : IsR x → IsR y → IsR (x * y) := fun ⟨a, ha⟩ ⟨b, hb⟩ => ⟨a * b, by rw [ha, hb, EReal.coe_mul]⟩
theorem IsR.add {x y : EReal} : IsR x → IsR y → IsR (x + y) := fun ⟨a, ha⟩ ⟨b, hb⟩ => ⟨a + b, by rw [ha, hb, EReal.coe_add]⟩
theorem IsR.zero : IsR 0 := ⟨0, rfl⟩
theorem IsR.sum {ι : Type} (t : Finset ι) (f : ι → EReal) (h : ∀ i, IsR (f i)) : IsR (∑ i ∈ t, f i) := by
  classical
  induction t using Finset.induction_on with
  | empty => exact ⟨0, by simp⟩
  | insert a t ha ih => rw [Finset.sum_insert ha]; exact (h a).add ih

/-- The greater of a real number and one that is not infinite above is a real number. -/
theorem IsR.max {x y : EReal} (hx : IsR x) (hy : y ≠ ⊤) : IsR (max x y) := by
  obtain ⟨a, rfl⟩ := hx
  induction y with
  | bot => exact ⟨a, by simp⟩
  | top => exact absurd rfl hy
  | coe b => exact ⟨_, (EReal.coe_strictMono.monotone.map_max (a := a) (b := b)).symm⟩

/-- The greatest of real numbers, from minus infinity, is not infinite above. -/
theorem fold_ne_top {ι : Type} (t : Finset ι) (b : EReal) (f : ι → EReal) (hb : b ≠ ⊤) (h : ∀ i, IsR (f i)) : Finset.fold Max.max b f t ≠ ⊤ := by
  classical
  induction t using Finset.induction_on with
  | empty => simpa using hb
  | insert a t ha ih =>
    rw [Finset.fold_insert ha]
    exact (IsR.max (h a) ih).elim fun r e => by rw [e]; exact EReal.coe_ne_top r

theorem neg_inf : (Ideal.ofBits FTy.f32 4286578688#32 : EReal) ≠ ⊤ := by
  rw [show (Ideal.ofBits FTy.f32 4286578688#32 : EReal) = ⊥ from by simp [Ideal.ofBits, Ideal.ieee]]
  exact bot_ne_top

/-- The greatest score of a key tile, for each of 256 queries. -/
theorem pay4_ne_top (K : FVec Ideal S1x512x128 .bf16) (Q : FVec Ideal S1x256x128 .bf16) (hK : ∀ x, IsR (K x)) (hQ : ∀ x, IsR (Q x)) (l : Fin 256) :
    k0_pay4 (F := Ideal) K Q (ix2 0 l) ≠ ⊤ := by
  pointwise [k0_pay4]
  exact fold_ne_top _ _ _ neg_inf fun i => IsR.sum _ _ fun k => (hK _).mul (hQ _)

/-- One step of the running maxima keeps them real numbers. -/
theorem pay29_real (m0 : FVec Ideal S1x1024 .f32) (a b c : FVec Ideal S1x256 .f32) (K : FVec Ideal S1x512x128 .bf16) (Q : FVec Ideal S1x256x128 .bf16)
    (hm : ∀ l, IsR (m0 (ix2 0 l))) (ha : ∀ l, a (ix2 0 l) ≠ ⊤) (hb : ∀ l, b (ix2 0 l) ≠ ⊤) (hc : ∀ l, c (ix2 0 l) ≠ ⊤)
    (hK : ∀ x, IsR (K x)) (hQ : ∀ x, IsR (Q x)) (l : Fin 1024) :
    IsR (k0_pay29 (F := Ideal) m0 a b c K Q (ix2 0 l)) := by
  pointwise [k0_pay29]
  refine (hm l).max ?_
  by_cases h1 : l.val < 256
  · rw [dif_pos h1]; exact ha _
  rw [dif_neg h1]
  by_cases h2 : l.val - 256 < 256
  · rw [dif_pos h2]; exact hb _
  rw [dif_neg h2]
  by_cases h3 : l.val - 256 - 256 < 256
  · rw [dif_pos h3]; exact hc _
  rw [dif_neg h3]
  exact fold_ne_top _ _ _ neg_inf fun i => IsR.sum _ _ fun k => (hK _).mul (hQ _)

/-- A run of eight such steps, from real numbers. -/
theorem steps_real (f : ℕ → FVec Ideal S1x1024 .f32) (h0 : ∀ l, IsR (f 0 (ix2 0 l)))
    (hs : ∀ k, k < 8 → ∃ (K0 K1 K2 K3 : FVec Ideal S1x512x128 .bf16) (Q0 Q1 Q2 Q3 : FVec Ideal S1x256x128 .bf16),
      f (k + 1) = k0_pay29 (F := Ideal) (f k) (k0_pay4 (F := Ideal) K0 Q0) (k0_pay4 (F := Ideal) K1 Q1) (k0_pay4 (F := Ideal) K2 Q2) K3 Q3
      ∧ (∀ x, IsR (K0 x)) ∧ (∀ x, IsR (K1 x)) ∧ (∀ x, IsR (K2 x)) ∧ (∀ x, IsR (K3 x))
      ∧ (∀ x, IsR (Q0 x)) ∧ (∀ x, IsR (Q1 x)) ∧ (∀ x, IsR (Q2 x)) ∧ (∀ x, IsR (Q3 x)))
    (n : ℕ) (hn : n ≤ 8) (l : Fin 1024) : IsR (f n (ix2 0 l)) := by
  induction n generalizing l with
  | zero => exact h0 l
  | succ n ih =>
    obtain ⟨K0, K1, K2, K3, Q0, Q1, Q2, Q3, e, k0, k1, k2, k3, q0, q1, q2, q3⟩ := hs n (by omega)
    rw [e]
    exact pay29_real _ _ _ _ _ _ (ih (by omega)) (pay4_ne_top _ _ k0 q0) (pay4_ne_top _ _ k1 q1) (pay4_ne_top _ _ k2 q2) k3 q3 l

end Cert.KernelIdeal.Val
end
-- ==== Proof.RefVal.lean ====
/-
  The reference's value: where queries and keys are real numbers it is the softmax attention, element by element.
-/
module

public import proofs.«01_k».proof.Proof.RefRun
public import proofs.«01_k».proof.Proof.Soft
public import proofs.«01_k».proof.Proof.Pays
public import Idealize.ShloMosaic.Lib.Claim

@[expose] public section
set_option maxRecDepth 16384
set_option maxHeartbeats 400000
noncomputable section
namespace Cert.ReferenceIdeal.Run
open Cert.ReferenceIdeal Cert.ReferenceIdeal.Gen
open Idealize.ShloMosaic Idealize.ShloMosaic.TcCoe Idealize.ShloMosaic.Tactic
open Idealize.SL Idealize.SL.Sem
open Cert.KernelIdeal.Val (IsR fold_ne_top neg_inf)

/-- The scores. -/
def SC (Q : FVec Ideal S4x4096x8x64 .f32) (K : FVec Ideal S4x4096x2x64 .f32) : FVec Ideal S4x2x4x4096x4096 .f32 :=
  mulf (transpose S4x2x4x4096x4096 [0, 1, 4, 3, 2]
      (Host.dotGeneral (F := Ideal) (φ₁ := .f32) (φ₂ := .f32) dot_S4x4096x2x64_S4x4096x2x4x64_S4x2x4096x4096x4_3_4_1_13_02_02 none K (shapeCast S4x4096x2x4x64 Q shapeCasts_S4x4096x8x64_S4x4096x2x4x64))
      transposes_S4x2x4096x4096x4_S4x2x4x4096x4096_0_1_4_3_2)
    (broadcastInDim S4x2x4x4096x4096 ![] bcast_S_S4x2x4x4096x4096 (constant S_ .f32 0x3E000000#32))

/-- The greatest score of a query. -/
def RM (s : FVec Ideal S4x2x4x4096x4096 .f32) : FVec Ideal S4x2x4x4096 .f32 :=
  Host.reduce FloatOps.maximumf s (constant S_ .f32 0xFF800000#32) reducesTo_S4x2x4x4096x4096_S4x2x4x4096_d4 h_S_

/-- The greatest score of a query, or −∞ where that is greater. -/
def MX (s : FVec Ideal S4x2x4x4096x4096 .f32) : FVec Ideal S4x2x4x4096 .f32 :=
  maximumf (broadcastInDim S4x2x4x4096 ![] bcast_S_S4x2x4x4096 (constant S_ .f32 0xFF800000#32)) (RM s)

/-- The exponentials of the scores less the greatest. -/
def EX (s : FVec Ideal S4x2x4x4096x4096 .f32) (mx : FVec Ideal S4x2x4x4096 .f32) : FVec Ideal S4x2x4x4096x4096 .f32 :=
  Host.exp (subf s (broadcastInDim S4x2x4x4096x4096 ![0, 1, 2, 3, 4] bcast_S4x2x4x4096x1_S4x2x4x4096x4096_0_1_2_3_4
    (broadcastInDim S4x2x4x4096x1 ![0, 1, 2, 3] bcast_S4x2x4x4096_S4x2x4x4096x1_0_1_2_3 mx)))

/-- The weights. -/
def PR (e : FVec Ideal S4x2x4x4096x4096 .f32) : FVec Ideal S4x2x4x4096x4096 .f32 :=
  Host.divf e (broadcastInDim S4x2x4x4096x4096 ![0, 1, 2, 3, 4] bcast_S4x2x4x4096x1_S4x2x4x4096x4096_0_1_2_3_4
    (broadcastInDim S4x2x4x4096x1 ![0, 1, 2, 3] bcast_S4x2x4x4096_S4x2x4x4096x1_0_1_2_3
      (Host.reduceAdd e (constant S_ .f32 0x00000000#32) reducesTo_S4x2x4x4096x4096_S4x2x4x4096_d4 h_S_)))

/-- The result. -/
def OUT (p : FVec Ideal S4x2x4x4096x4096 .f32) (V : FVec Ideal S4x4096x2x64 .f32) : FVec Ideal S16384x512 .bf16 :=
  truncf .bf16 (shapeCast S16384x512 (transpose S4x4096x2x4x64 [0, 4, 1, 3, 2]
      (Host.dotGeneral (F := Ideal) (φ₁ := .f32) (φ₂ := .f32) dot_S4x4096x2x64_S4x2x4x4096x4096_S4x2x64x4x4096_1_4_3_23_02_01 none V p)
      transposes_S4x2x64x4x4096_S4x4096x2x4x64_0_4_1_3_2) shapeCasts_S4x4096x2x4x64_S16384x512) bitsLt_bf16_f32

/-- The reference's term. -/
def REF (Q : FVec Ideal S4x4096x8x64 .f32) (K V : FVec Ideal S4x4096x2x64 .f32) : FVec Ideal S16384x512 .bf16 :=
  OUT (PR (EX (SC Q K) (MX (SC Q K)))) V

theorem SC_at (Q : FVec Ideal S4x4096x8x64 .f32) (K : FVec Ideal S4x4096x2x64 .f32) (b : Fin 4) (h : Fin 2) (g : Fin 4) (t s : Fin 4096) :
    SC Q K (ix5 b h g t s) = (∑ d : Fin 64, K (ix4 b s h d) * Q (ix4 b t ⟨h.val * 4 + g.val, by omega⟩ d)) * ((1 / 8 : ℝ) : EReal) := by
  pointwise [SC]
  exact congrArg _ (by simp only [Ideal.ofBits, Ideal.ieee]; simp; rw [← EReal.coe_mul]; norm_num)

/-- A greatest value of real numbers is a real number. -/
theorem reduce_real {s t u : Shape} {axes : List (Fin s.rank)} (x : FVec Ideal s .f32) (init : FVec Ideal u .f32) (h : s.ReducesTo axes t) (hu : 0 < u.numel) (j : t.Idx)
    (hc : (init (Shape.Idx.first hu) : EReal) ≠ ⊤) (hx : ∀ i, IsR (x i)) (i : s.Idx) (hi : h.drop i = j) :
    IsR (Host.reduce (FloatOps.maximumf (F := Ideal) (φ := .f32)) x init h hu j) := by
  rw [Host.reduce_eq_fold]
  show IsR (Finset.fold (Max.max : EReal → EReal → EReal) _ _ _)
  refine ⟨_, (EReal.coe_toReal (fold_ne_top _ _ _ hc hx) fun hb => ?_).symm⟩
  obtain ⟨r, hr⟩ := hx i
  have : (x i : EReal) ≤ Finset.fold (Max.max : EReal → EReal → EReal) (init (Shape.Idx.first hu)) x (Finset.univ.filter fun i => h.drop i = j) :=
    (Finset.le_fold_max _).mpr (Or.inr ⟨i, Finset.mem_filter.mpr ⟨Finset.mem_univ _, hi⟩, le_rfl⟩)
  rw [hb, hr] at this
  exact EReal.coe_ne_bot r (le_bot_iff.mp this)

theorem RM_real (s : FVec Ideal S4x2x4x4096x4096 .f32) (hs : ∀ i, IsR (s i)) (j : S4x2x4x4096.Idx) : IsR (RM s j) := by
  obtain ⟨i, hi⟩ : ∃ i, reducesTo_S4x2x4x4096x4096_S4x2x4x4096_d4.drop i = j := ⟨_, (reducesTo_S4x2x4x4096x4096_S4x2x4x4096_d4.fiber_r5_a4 j _).mpr ⟨0, rfl⟩⟩
  exact reduce_real s (constant S_ .f32 0xFF800000#32) reducesTo_S4x2x4x4096x4096_S4x2x4x4096_d4 h_S_ j neg_inf hs i hi

/-- A real number or −∞, whichever is greater, where the −∞ is spread over an array. -/
theorem max_real {s : Shape} {bd : Fin 0 → Fin s.rank} (hb) (y : FVec Ideal s .f32) (j : s.Idx) (hy : IsR (y j)) :
    IsR (maximumf (broadcastInDim s bd hb (constant S_ .f32 0xFF800000#32)) y j) := by
  show IsR (max (Ideal.ofBits .f32 0xFF800000#32) (y j))
  rw [max_comm]
  exact hy.max neg_inf

/-- The greatest score is a real number where the scores are. -/
theorem MX_real (s : FVec Ideal S4x2x4x4096x4096 .f32) (hs : ∀ i, IsR (s i)) (j : S4x2x4x4096.Idx) : IsR (MX s j) :=
  max_real bcast_S_S4x2x4x4096 (RM s) j (RM_real s hs j)

theorem EX_at (s : FVec Ideal S4x2x4x4096x4096 .f32) (mx : FVec Ideal S4x2x4x4096 .f32) (b : Fin 4) (h : Fin 2) (g : Fin 4) (t k : Fin 4096) :
    EX s mx (ix5 b h g t k) = Ideal.exp (s (ix5 b h g t k) - mx (ix4 b h g t)) := by
  pointwise [EX]

theorem PR_at (e : FVec Ideal S4x2x4x4096x4096 .f32) (b : Fin 4) (h : Fin 2) (g : Fin 4) (t k : Fin 4096) :
    PR e (ix5 b h g t k) = Ideal.div (e (ix5 b h g t k)) (∑ j : Fin 4096, e (ix5 b h g t j)) := by
  pointwise [PR]

theorem OUT_at (p : FVec Ideal S4x2x4x4096x4096 .f32) (V : FVec Ideal S4x4096x2x64 .f32) (r : Fin 16384) (l : Fin 512) :
    OUT p V (ix2 r l) = ∑ s : Fin 4096, V (ix4 ⟨r.val / 4096, by omega⟩ s ⟨l.val / 256, by omega⟩ ⟨l.val % 64, by omega⟩)
      * p (ix5 ⟨r.val / 4096, by omega⟩ ⟨l.val / 256, by omega⟩ ⟨l.val / 64 % 4, by omega⟩ ⟨r.val % 4096, by omega⟩ s) := by
  pointwise [OUT]

/-- The reference's result: softmax attention. -/
theorem REF_at (Q : FVec Ideal S4x4096x8x64 .f32) (K V : FVec Ideal S4x4096x2x64 .f32) (hQ : ∀ i, IsR (Q i)) (hK : ∀ i, IsR (K i)) (r : Fin 16384) (l : Fin 512) :
    REF Q K V (ix2 r l) = Soft.att (n := 4096) (fun s d => EReal.toReal (K (ix4 ⟨r.val / 4096, by omega⟩ s ⟨l.val / 256, by omega⟩ d)))
      (fun s => V (ix4 ⟨r.val / 4096, by omega⟩ s ⟨l.val / 256, by omega⟩ ⟨l.val % 64, by omega⟩))
      (fun d => EReal.toReal (Q (ix4 ⟨r.val / 4096, by omega⟩ ⟨r.val % 4096, by omega⟩ ⟨l.val / 64, by omega⟩ d))) := by
  have cQ : ∀ i, ((EReal.toReal (Q i) : ℝ) : EReal) = Q i := fun i => by obtain ⟨x, hx⟩ := hQ i; rw [hx]; rfl
  have cK : ∀ i, ((EReal.toReal (K i) : ℝ) : EReal) = K i := fun i => by obtain ⟨x, hx⟩ := hK i; rw [hx]; rfl
  have hs : ∀ i, IsR (SC Q K i) := fun i => by
    rw [eq_ix5 i]
    exact (congrArg IsR (SC_at Q K (i 0) (i 1) (i 2) (i 3) (i 4))).mpr ((Cert.KernelIdeal.Val.IsR.sum _ _ fun d => (hK _).mul (hQ _)).mul ⟨_, rfl⟩)
  have e := Soft.att_exp (n := 4096) (by norm_num) (fun s d => EReal.toReal (K (ix4 ⟨r.val / 4096, by omega⟩ s ⟨l.val / 256, by omega⟩ d)))
      (fun s => V (ix4 ⟨r.val / 4096, by omega⟩ s ⟨l.val / 256, by omega⟩ ⟨l.val % 64, by omega⟩))
      (fun d => EReal.toReal (Q (ix4 ⟨r.val / 4096, by omega⟩ ⟨r.val % 4096, by omega⟩ ⟨l.val / 64, by omega⟩ d)))
  obtain ⟨c, hc⟩ := MX_real (SC Q K) hs (ix4 ⟨r.val / 4096, by omega⟩ ⟨l.val / 256, by omega⟩ ⟨l.val / 64 % 4, by omega⟩ ⟨r.val % 4096, by omega⟩)
  have hl : l.val / 256 * 4 + l.val / 64 % 4 = l.val / 64 := by omega
  have sc : ∀ s : Fin 4096, SC Q K (ix5 ⟨r.val / 4096, by omega⟩ ⟨l.val / 256, by omega⟩ ⟨l.val / 64 % 4, by omega⟩ ⟨r.val % 4096, by omega⟩ s)
      = ((Soft.score (n := 4096) (fun s d => EReal.toReal (K (ix4 ⟨r.val / 4096, by omega⟩ s ⟨l.val / 256, by omega⟩ d))) (fun d => EReal.toReal (Q (ix4 ⟨r.val / 4096, by omega⟩ ⟨r.val % 4096, by omega⟩ ⟨l.val / 64, by omega⟩ d))) s : ℝ) : EReal) := fun s => by
    rw [SC_at, Soft.score, EReal.coe_mul, ← Soft.coe_sum]
    simp only [EReal.coe_mul, cQ, cK, hl]
  rw [← e c, REF, OUT_at]
  refine Finset.sum_congr rfl fun s _ => congrArg _ ?_
  rw [PR_at]
  simp only [EX_at, hc, sc]

/-- The run: the result is that term, the arguments are as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v19) = REF (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  unfold REF OUT PR EX MX RM SC
  hlo_run
  rfl

end Cert.ReferenceIdeal.Run
end
-- ==== Proof.Trip.lean ====
/-
  One trip of the loop over the subtiles of the queries, in values: the trip of subtile `k` adds to the accumulator of
  that subtile, for each of its four columns of 256 queries, the products of the eight key tiles with their
  probabilities, and leaves the probabilities of the next subtile's first key tile in slot 0.
-/
module

public import proofs.«01_k».proof.Proof.Gen.KernelIdeal.Loops
public import Idealize.ShloMosaic.Lib.Pipeline.ValueKit
public import Idealize.ShloMosaic.Lib.VecWindow

@[expose] public section
set_option maxRecDepth 16384
set_option maxHeartbeats 1000000
noncomputable section
namespace Cert.KernelIdeal.Run
open Cert.KernelIdeal Cert.KernelIdeal.Gen
open Idealize.ShloMosaic Idealize.ShloMosaic.TcCoe Idealize.ShloMosaic.Tactic
open Idealize.SL Idealize.SL.Sem

section Boxes
variable {sig' : RefSig} {κ : Kind} {sp : Space} {s : Shape} {e : EltTy} {Val : EltTy → Type}

/-- What a box of a view holds. -/
abbrev box (v : View sig' κ sp s e) (f : v.ty.Contents Val) (off size : Fin s.rank → ℕ) (inb : ∀ a, off a + size a ≤ s.size a) :
    (Rect.unit off size inb).shape.Idx → Val e := v.readAt Val (Rect.unit off size inb).toLoadRect f

/-- A box just stored to holds the payload. -/
theorem box_same (v : View sig' κ sp s e) (f : v.ty.Contents Val) (off off' size : Fin s.rank → ℕ) (inb : ∀ a, off a + size a ≤ s.size a)
    (inb' : ∀ a, off' a + size a ≤ s.size a)
    (w : (Rect.unit off' size inb').shape.Idx → Val e) (L : List (View.Piece Val s e)) (h : off = off') :
    v.readAt Val (Rect.unit off size inb).toLoadRect (v.writes Val f (⟨Rect.unit off' size inb', w⟩ :: L)) = w := by
  subst h
  rw [View.readAt_unit v _ inb rfl inb, View.read_writes_cons_put v f inb' w L rfl, VecWindow.window_put_same]

/-- A box's offsets may be written another way. -/
theorem box_off (v : View sig' κ sp s e) (f : v.ty.Contents Val) {off off' size : Fin s.rank → ℕ} (h : off = off') (inb : ∀ a, off a + size a ≤ s.size a) :
    v.readAt Val (Rect.unit off size inb).toLoadRect f = v.readAt Val (Rect.unit off' size (h ▸ inb)).toLoadRect f := by
  subst h; rfl

/-- A store to a box apart from this one on axis `a` is not seen. -/
theorem box_skip (v : View sig' κ sp s e) (f : v.ty.Contents Val) (off size off' size' : Fin s.rank → ℕ) (inb : ∀ a, off a + size a ≤ s.size a)
    (inb' : ∀ a, off' a + size' a ≤ s.size a) (w : (Rect.unit off' size' inb').shape.Idx → Val e) (L : List (View.Piece Val s e))
    (a : Fin s.rank) (h : (Nat.ble (off a + size a) (off' a) || Nat.ble (off' a + size' a) (off a)) = true) :
    v.readAt Val (Rect.unit off size inb).toLoadRect (v.writes Val f (⟨Rect.unit off' size' inb', w⟩ :: L))
      = v.readAt Val (Rect.unit off size inb).toLoadRect (v.writes Val f L) := by
  rw [View.readAt_unit v _ inb rfl inb, View.read_writes_cons_put v f inb' w L rfl, View.readAt_unit v _ inb rfl inb]
  refine VecWindow.window_put_of_disjoint _ _ _ _ _ inb _ a ?_
  simpa [Nat.ble_eq] using h

/-- `box_skip` on the last of three axes. -/
theorem box_skip2 {d : Fin 3 → ℕ} (v : View sig' κ sp ⟨3, d⟩ e) (f : v.ty.Contents Val) (off size off' size' : Fin 3 → ℕ) (inb : ∀ a, off a + size a ≤ d a)
    (inb' : ∀ a, off' a + size' a ≤ d a) (w : (Rect.unit (s := ⟨3, d⟩) off' size' inb').shape.Idx → Val e) (L : List (View.Piece Val ⟨3, d⟩ e))
    (h : (Nat.ble (off 2 + size 2) (off' 2) || Nat.ble (off' 2 + size' 2) (off 2)) = true) :
    v.readAt Val (Rect.unit (s := ⟨3, d⟩) off size inb).toLoadRect (v.writes Val f (⟨Rect.unit (s := ⟨3, d⟩) off' size' inb', w⟩ :: L))
      = v.readAt Val (Rect.unit (s := ⟨3, d⟩) off size inb).toLoadRect (v.writes Val f L) :=
  box_skip v f off size off' size' inb inb' w L 2 h

/-- `box_skip` on the first of three axes. -/
theorem box_skip0 {d : Fin 3 → ℕ} (v : View sig' κ sp ⟨3, d⟩ e) (f : v.ty.Contents Val) (off size off' size' : Fin 3 → ℕ) (inb : ∀ a, off a + size a ≤ d a)
    (inb' : ∀ a, off' a + size' a ≤ d a) (w : (Rect.unit (s := ⟨3, d⟩) off' size' inb').shape.Idx → Val e) (L : List (View.Piece Val ⟨3, d⟩ e))
    (h : (Nat.ble (off 0 + size 0) (off' 0) || Nat.ble (off' 0 + size' 0) (off 0)) = true) :
    v.readAt Val (Rect.unit (s := ⟨3, d⟩) off size inb).toLoadRect (v.writes Val f (⟨Rect.unit (s := ⟨3, d⟩) off' size' inb', w⟩ :: L))
      = v.readAt Val (Rect.unit (s := ⟨3, d⟩) off size inb).toLoadRect (v.writes Val f L) :=
  box_skip v f off size off' size' inb inb' w L 0 h

variable [∀ e, Nonempty (Val e)]

/-- The same of a load that the stores before it cover. -/
theorem cov_same (v : View sig' κ sp s e) (off off' size : Fin s.rank → ℕ) (inb : ∀ a, off a + size a ≤ s.size a)
    (inb' : ∀ a, off' a + size a ≤ s.size a)
    (w : (Rect.unit off' size inb').shape.Idx → Val e) (L : List (View.Piece Val s e)) (h : off = off') :
    v.readCov (⟨Rect.unit off' size inb', w⟩ :: L) (Rect.unit off size inb).toLoadRect = w :=
  box_same v v.junk off off' size inb inb' w L h

theorem cov_skip2 {d : Fin 3 → ℕ} (v : View sig' κ sp ⟨3, d⟩ e) (off size off' size' : Fin 3 → ℕ) (inb : ∀ a, off a + size a ≤ d a)
    (inb' : ∀ a, off' a + size' a ≤ d a) (w : (Rect.unit (s := ⟨3, d⟩) off' size' inb').shape.Idx → Val e) (L : List (View.Piece Val ⟨3, d⟩ e))
    (h : (Nat.ble (off 2 + size 2) (off' 2) || Nat.ble (off' 2 + size' 2) (off 2)) = true) :
    v.readCov (⟨Rect.unit (s := ⟨3, d⟩) off' size' inb', w⟩ :: L) (Rect.unit (s := ⟨3, d⟩) off size inb).toLoadRect
      = v.readCov L (Rect.unit (s := ⟨3, d⟩) off size inb).toLoadRect :=
  box_skip2 v v.junk off size off' size' inb inb' w L h

theorem cov_skip0 {d : Fin 3 → ℕ} (v : View sig' κ sp ⟨3, d⟩ e) (off size off' size' : Fin 3 → ℕ) (inb : ∀ a, off a + size a ≤ d a)
    (inb' : ∀ a, off' a + size' a ≤ d a) (w : (Rect.unit (s := ⟨3, d⟩) off' size' inb').shape.Idx → Val e) (L : List (View.Piece Val ⟨3, d⟩ e))
    (h : (Nat.ble (off 0 + size 0) (off' 0) || Nat.ble (off' 0 + size' 0) (off 0)) = true) :
    v.readCov (⟨Rect.unit (s := ⟨3, d⟩) off' size' inb', w⟩ :: L) (Rect.unit (s := ⟨3, d⟩) off size inb).toLoadRect
      = v.readCov L (Rect.unit (s := ⟨3, d⟩) off size inb).toLoadRect :=
  box_skip0 v v.junk off size off' size' inb inb' w L h

end Boxes

variable {F : FTy → Type} [FloatOps F] [Named F]

seal k0_off9 k0_off10 k0_off11 k0_off12 k0_off13 k0_off14 k0_off15 k0_off16 k0_off17 k0_off18 k0_off19 k0_off20 k0_off21 k0_off22 k0_off23 k0_off24 k0_off25 k0_off26
  k0_off27 k0_off28 k0_off29 k0_off30 k0_off31

section Trip
variable (𝒱 : Variants) (c : Dev nD) (bd : Option 𝒱.V) (i : grid0.Coords) (arg3 : Memref sig .tc .smem S1 .f32) (harg3 : arg3.IsWhole) (arg4 : Memref sig .tc .vmem S2048x256 .f32) (harg4 : arg4.IsWhole) (arg5 : Memref sig .tc .vmem S1x4096x128 .bf16) (harg5 : arg5.IsWhole) (arg6 : Memref sig .tc .vmem S1x8x128x512 .bf16) (harg6 : arg6.IsWhole) (arg7 : Memref sig .tc .vmem S2048x256 .bf16) (harg7 : arg7.IsWhole) (arg8 : Memref sig .tc .vmem S8x1024x128 .bf16) (harg8 : arg8.IsWhole) (arg9 : Memref sig .tc .vmem S8x1x1024 .f32) (harg9 : arg9.IsWhole) (arg10 : Memref sig .tc .vmem S8x128x1024 .f32) (harg10 : arg10.IsWhole) (arg11 : Memref sig .tc .vmem S2x512x1024 .bf16) (harg11 : arg11.IsWhole) (v389 : Elt F .f32) (v438 : FVec F S512x256 .bf16)
  (X5 : BufTy.Contents (Elt F) arg5.view.ty) (X6 : BufTy.Contents (Elt F) arg6.view.ty) (X8 : BufTy.Contents (Elt F) arg8.view.ty) (X9 : BufTy.Contents (Elt F) arg9.view.ty) (k : Fin k0_t9_loop.trips)

/-- Key tile `j`: 512 keys, each twice beside itself. -/
abbrev ktile (j : Fin 8) : S1x512x128.Idx → Elt F .bf16 :=
  box arg5.view X5 ![0, 512 * j.val, 0] S1x512x128.size (by have := j.isLt; intro a; fin_cases a <;> simp [S1x512x128, S1x4096x128] <;> omega)

/-- The queries of subtile `u`, column `cc`: 256 queries, with the half of their lanes kept that belongs to the head. -/
abbrev qtile (u : Fin 8) (cc : Fin 4) : S1x256x128.Idx → Elt F .bf16 :=
  box arg8.view X8 ![u.val, 256 * cc.val, 0] S1x256x128.size (by have := u.isLt; have := cc.isLt; intro a; fin_cases a <;> simp [S1x256x128, S8x1024x128] <;> omega)

/-- The shifts of those queries. -/
abbrev ctile (u : Fin 8) (cc : Fin 4) : S1x1x256.Idx → Elt F .f32 :=
  box arg9.view X9 ![u.val, 0, 256 * cc.val] S1x1x256.size (by have := u.isLt; have := cc.isLt; intro a; fin_cases a <;> simp [S1x1x256, S8x1x1024] <;> omega)

/-- Value tile `j`: the values of 512 keys, transposed, above rows of ones. -/
abbrev vtile (j : Fin 8) : S1x1x128x512.Idx → Elt F .bf16 :=
  box arg6.view X6 ![0, j.val, 0, 0] S1x1x128x512.size (by have := j.isLt; intro a; fin_cases a <;> simp [S1x1x128x512, S1x8x128x512] <;> omega)

/-- The weights of key tile `j` for subtile `u`, column `cc`. -/
abbrev ptile (u : Fin 8) (j : Fin 8) (cc : Fin 4) : S1x512x256.Idx → Elt F .bf16 :=
  k0_pay196 (ktile arg5 X5 j) (qtile arg8 X8 u cc) (ctile arg9 X9 u cc)

/-- A column of the accumulator of subtile `u`. -/
abbrev abox (f : BufTy.Contents (Elt F) arg10.view.ty) (u : Fin 8) (cc : Fin 4) : S1x128x256.Idx → Elt F .f32 :=
  box arg10.view f ![u.val, 0, 256 * cc.val] S1x128x256.size (by have := u.isLt; have := cc.isLt; intro a; fin_cases a <;> simp [S1x128x256, S8x128x1024] <;> omega)

/-- A column of slot 0 of the weights. -/
abbrev pbox (f : BufTy.Contents (Elt F) arg11.view.ty) (cc : Fin 4) : S1x512x256.Idx → Elt F .bf16 :=
  box arg11.view f ![0, 0, 256 * cc.val] S1x512x256.size (by have := cc.isLt; intro a; fin_cases a <;> simp [S1x512x256, S2x512x1024] <;> omega)

theorem lt8 : k.val < 8 := Nat.lt_of_lt_of_le k.isLt k0_t9_abs.2.1

open trip_k0_t9.sl in
/-- The trip leaves the weights of the next stage in slot 0. -/
theorem trip_slot0 (f10 : BufTy.Contents (Elt F) arg10.view.ty) (f11 : BufTy.Contents (Elt F) arg11.view.ty) (cc : Fin 4) :
    pbox arg11 (arg11.view.writes (Elt F) f11 ((trip_k0_t9 (F := F) 𝒱 c bd i arg3 harg3 arg4 harg4 arg5 harg5 arg6 harg6 arg7 harg7 arg8 harg8 arg9 harg9 arg10 harg10 arg11 harg11 v389 v438 X5 X6 X8 X9 k).2.1 f10 f11)) cc
      = ptile arg5 arg8 arg9 X5 X8 X9 ⟨min (8 * k.val + 8) 63 / 8, by omega⟩ ⟨min (8 * k.val + 8) 63 % 8, by omega⟩ cc := by
  delta trip_k0_t9
  dsimp only
  obtain rfl | rfl | rfl | rfl : cc = 0 ∨ cc = 1 ∨ cc = 2 ∨ cc = 3 := by omega
  all_goals
    simp (disch := first | rfl | decide) only [pbox, box, box_same, box_skip2, box_skip0, cst_366,
      HW_arg11_10, HW_arg11_11, HW_arg11_12, HW_arg11_13, HW_arg11_14, HW_arg11_15, HW_arg11_16, HW_arg11_17, HW_arg11_18, HW_arg11_19, HW_arg11_20,
      HW_arg11_21, HW_arg11_22, HW_arg11_23, HW_arg11_24, HW_arg11_25, HW_arg11_26, HW_arg11_27, HW_arg11_28, HW_arg11_29, HW_arg11_30, HW_arg11_31,
      HW_arg11_32, HW_arg11_8, HW_arg11_9, v1563, v1566, v1567, v1570, v1571, v1572, v1573, v1574, v1577, v1585, v1586, v1589, v1590, v1591, v1592,
      v1593, v1596, v1604, v1605, v1608, v1609, v1610, v1611, v1612, v1615, v1623, v1624, v1627, v1628, v1629, v1630, v1631, v1634,
      r, r_1]
    simp only [box_off arg5.view X5 (k0_off23_eq k), box_off arg8.view X8 (k0_off24_eq k), box_off arg9.view X9 (k0_off25_eq k), box_off arg8.view X8 (k0_off26_eq k),
      box_off arg9.view X9 (k0_off27_eq k), box_off arg8.view X8 (k0_off28_eq k), box_off arg9.view X9 (k0_off29_eq k), box_off arg8.view X8 (k0_off30_eq k), box_off arg9.view X9 (k0_off31_eq k)]
    rfl

open trip_k0_t9.sl in
/-- The trip leaves the accumulators of the other subtiles. -/
theorem trip_else (f10 : BufTy.Contents (Elt F) arg10.view.ty) (f11 : BufTy.Contents (Elt F) arg11.view.ty) (u : Fin 8) (cc : Fin 4) (hu : u.val ≠ k.val) :
    abox arg10 (arg10.view.writes (Elt F) f10 ((trip_k0_t9 (F := F) 𝒱 c bd i arg3 harg3 arg4 harg4 arg5 harg5 arg6 harg6 arg7 harg7 arg8 harg8 arg9 harg9 arg10 harg10 arg11 harg11 v389 v438 X5 X6 X8 X9 k).1 f10 f11)) u cc = abox arg10 f10 u cc := by
  delta trip_k0_t9
  dsimp only
  simp (disch := (simp only [k0_off18_eq, k0_off20_eq, k0_off21_eq, k0_off22_eq, Matrix.cons_val_zero, Nat.ble_eq, Bool.or_eq_true]; omega)) only [abox, box, View.writes_nil, box_skip0,
      HW_arg10_4, HW_arg10_5, HW_arg10_6, HW_arg10_7, HW_arg10_8, HW_arg10_9, HW_arg10_10, HW_arg10_11, HW_arg10_12, HW_arg10_13, HW_arg10_14,
      HW_arg10_15, HW_arg10_16, HW_arg10_17, HW_arg10_18, HW_arg10_19, HW_arg10_20, HW_arg10_21, HW_arg10_22, HW_arg10_23, HW_arg10_24, HW_arg10_25,
      HW_arg10_26, HW_arg10_27, HW_arg10_28, HW_arg10_29, HW_arg10_30, HW_arg10_31]

open trip_k0_t9.sl in
/-- The trip adds to the accumulator of its subtile the products of the eight value tiles with their weights, those of
    the first tile as slot 0 holds them. -/
theorem trip_acc (f10 : BufTy.Contents (Elt F) arg10.view.ty) (f11 : BufTy.Contents (Elt F) arg11.view.ty) (cc : Fin 4) :
    abox arg10 (arg10.view.writes (Elt F) f10 ((trip_k0_t9 (F := F) 𝒱 c bd i arg3 harg3 arg4 harg4 arg5 harg5 arg6 harg6 arg7 harg7 arg8 harg8 arg9 harg9 arg10 harg10 arg11 harg11 v389 v438 X5 X6 X8 X9 k).1 f10 f11)) ⟨k.val, lt8 k⟩ cc
      = Fin.foldl 7 (fun a j => k0_pay197 a (vtile arg6 X6 j.succ) (ptile arg5 arg8 arg9 X5 X8 X9 ⟨k.val, lt8 k⟩ j.succ cc))
          (k0_pay197 (abox arg10 f10 ⟨k.val, lt8 k⟩ cc) (vtile arg6 X6 0) (pbox arg11 f11 cc)) := by
  have e1 : k0_off9 k 0#32 = ![0, 512, 0] := k0_off9_eq k 0
  have e2 : k0_off9 k 1#32 = ![0, 1024, 0] := k0_off9_eq k 1
  have e3 : k0_off9 k 2#32 = ![0, 1536, 0] := k0_off9_eq k 2
  have e4 : k0_off9 k 3#32 = ![0, 2048, 0] := k0_off9_eq k 3
  have e5 : k0_off9 k 4#32 = ![0, 2560, 0] := k0_off9_eq k 4
  have e6 : k0_off9 k 5#32 = ![0, 3072, 0] := k0_off9_eq k 5
  have e7 : k0_off9 k 6#32 = ![0, 3584, 0] := k0_off9_eq k 6
  have w0 : k0_off19 k 0#32 = ![0, 0, 0, 0] := k0_off19_eq k 0
  have w1 : k0_off19 k 1#32 = ![0, 1, 0, 0] := k0_off19_eq k 1
  have w2 : k0_off19 k 2#32 = ![0, 2, 0, 0] := k0_off19_eq k 2
  have w3 : k0_off19 k 3#32 = ![0, 3, 0, 0] := k0_off19_eq k 3
  have w4 : k0_off19 k 4#32 = ![0, 4, 0, 0] := k0_off19_eq k 4
  have w5 : k0_off19 k 5#32 = ![0, 5, 0, 0] := k0_off19_eq k 5
  have w6 : k0_off19 k 6#32 = ![0, 6, 0, 0] := k0_off19_eq k 6
  have w7 : k0_off19 k 7#32 = ![0, 7, 0, 0] := k0_off19_eq k 7
  delta trip_k0_t9
  dsimp only
  simp only [Fin.foldl_succ, Fin.foldl_zero]
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  obtain rfl | rfl | rfl | rfl : cc = 0 ∨ cc = 1 ∨ cc = 2 ∨ cc = 3 := by omega
  all_goals
    simp (disch := first | ((simp only [k0_off18_eq, k0_off20_eq, k0_off21_eq, k0_off22_eq, Matrix.cons_val, v0, v1, v2, v3, Nat.mul_zero, Nat.mul_one, Nat.reduceMul]) <;> first | rfl | decide) | rfl | decide) only [abox, pbox, box, box_same, box_skip2, cov_same, cov_skip2, cov_skip0, cst_366, cst_414,
    HW_arg10_4, HW_arg10_5, HW_arg10_6, HW_arg10_7, HW_arg10_8, HW_arg10_9, HW_arg11_8, HW_arg11_9, HW_arg10_10, HW_arg10_11, HW_arg10_12, HW_arg10_13,
    HW_arg10_14, HW_arg10_15, HW_arg10_16, HW_arg10_17, HW_arg10_18, HW_arg10_19, HW_arg10_20, HW_arg10_21, HW_arg10_22, HW_arg10_23, HW_arg10_24,
    HW_arg10_25, HW_arg10_26, HW_arg10_27, HW_arg10_28, HW_arg10_29, HW_arg10_30, HW_arg10_31, HW_arg11_10, HW_arg11_11, HW_arg11_12, HW_arg11_13,
    HW_arg11_14, HW_arg11_15, HW_arg11_16, HW_arg11_17, HW_arg11_18, HW_arg11_19, HW_arg11_20, HW_arg11_21, HW_arg11_22, HW_arg11_23, HW_arg11_24,
    HW_arg11_25, HW_arg11_26, HW_arg11_27, HW_arg11_28, HW_arg11_29, HW_arg11_30, HW_arg11_31, HW_arg11_32, v615, v618, v619, v622, v623, v624, v625,
    v626, v629, v637, v638, v641, v642, v643, v644, v645, v648, v656, v657, v660, v661, v662, v663, v664, v667, v675, v676, v679, v680, v681, v682,
    v683, v686, v690, v693, v694, v695, v696, v697, v701, v703, v704, v708, v709, v710, v711, v715, v717, v718, v722, v723, v724, v725, v729, v731,
    v732, v736, v737, v738, v739, v743, v750, v754, v759, v760, v761, v764, v773, v778, v779, v780, v783, v792, v797, v798, v799, v802, v811, v816,
    v817, v818, v821, v824, v825, v828, v829, v830, v831, v832, v836, v838, v839, v843, v844, v845, v846, v850, v852, v853, v857, v858, v859, v860,
    v864, v866, v867, v871, v872, v873, v874, v878, v885, v889, v894, v895, v896, v899, v908, v913, v914, v915, v918, v927, v932, v933, v934, v937,
    v946, v951, v952, v953, v956, v959, v960, v963, v964, v965, v966, v967, v971, v973, v974, v978, v979, v980, v981, v985, v987, v988, v992, v993,
    v994, v995, v999, v1001, v1002, v1006, v1007, v1008, v1009, v1013, v1020, v1024, v1029, v1030, v1031, v1034, v1039, v1043, v1048, v1049, v1050,
    v1053, v1062, v1067, v1068, v1069, v1072, v1081, v1086, v1087, v1088, v1091, v1094, v1095, v1098, v1099, v1100, v1101, v1102, v1106, v1108, v1109,
    v1113, v1114, v1115, v1116, v1120, v1122, v1123, v1127, v1128, v1129, v1130, v1134, v1136, v1137, v1141, v1142, v1143, v1144, v1148, v1155, v1159,
    v1164, v1165, v1166, v1169, v1178, v1183, v1184, v1185, v1188, v1197, v1202, v1203, v1204, v1207, v1216, v1221, v1222, v1223, v1226, v1229, v1230,
    v1233, v1234, v1235, v1236, v1237, v1241, v1243, v1244, v1248, v1249, v1250, v1251, v1255, v1257, v1258, v1262, v1263, v1264, v1265, v1269, v1271,
    v1272, v1276, v1277, v1278, v1279, v1283, v1290, v1294, v1297, v1298, v1299, v1300, v1301, v1304, v1313, v1318, v1319, v1320, v1323, v1332, v1337,
    v1338, v1339, v1342, v1351, v1356, v1357, v1358, v1361, v1364, v1365, v1368, v1369, v1370, v1371, v1372, v1376, v1378, v1379, v1383, v1384, v1385,
    v1386, v1390, v1392, v1393, v1397, v1398, v1399, v1400, v1404, v1406, v1407, v1411, v1412, v1413, v1414, v1418, v1425, v1429, v1434, v1435, v1436,
    v1439, v1448, v1453, v1454, v1455, v1458, v1467, v1472, v1473, v1474, v1477, v1486, v1491, v1492, v1493, v1496, v1499, v1500, v1503, v1504, v1505,
    v1506, v1507, v1511, v1513, v1514, v1518, v1519, v1520, v1521, v1525, v1527, v1528, v1532, v1533, v1534, v1535, v1539, v1541, v1542, v1546, v1547,
    v1548, v1549, v1553, v1563, v1566, v1567, v1570, v1571, v1572, v1573, v1574, v1577, v1585, v1586, v1589, v1590, v1591, v1592, v1593, v1596, v1604,
    v1605, v1608, v1609, v1610, v1611, v1612, v1615, v1623, v1624, v1627, v1628, v1629, v1630, v1631, v1634, v1637, v1638, v1641, v1642, v1643, v1644,
    v1645, v1649, v1651, v1652, v1656, v1657, v1658, v1659, v1663, v1665, v1666, v1670, v1671, v1672, v1673, v1677, v1679, v1684,
      r, r_1]
    simp only [box_off arg8.view X8 (k0_off10_eq k), box_off arg8.view X8 (k0_off12_eq k), box_off arg8.view X8 (k0_off14_eq k), box_off arg8.view X8 (k0_off16_eq k),
      box_off arg9.view X9 (k0_off11_eq k), box_off arg9.view X9 (k0_off13_eq k), box_off arg9.view X9 (k0_off15_eq k), box_off arg9.view X9 (k0_off17_eq k),
      box_off arg10.view f10 (k0_off18_eq k), box_off arg10.view f10 (k0_off20_eq k), box_off arg10.view f10 (k0_off21_eq k), box_off arg10.view f10 (k0_off22_eq k),
      box_off arg5.view X5 e1, box_off arg5.view X5 e2, box_off arg5.view X5 e3, box_off arg5.view X5 e4, box_off arg5.view X5 e5, box_off arg5.view X5 e6, box_off arg5.view X5 e7,
      box_off arg6.view X6 w0, box_off arg6.view X6 w1, box_off arg6.view X6 w2, box_off arg6.view X6 w3, box_off arg6.view X6 w4, box_off arg6.view X6 w5, box_off arg6.view X6 w6, box_off arg6.view X6 w7]
  · rfl
  all_goals rfl

end Trip

end Cert.KernelIdeal.Run
end
-- ==== Proof.Loop.lean ====
/-
  The whole loop over the subtiles, in values: what the accumulator of every subtile holds after the last trip.
-/
module

public import proofs.«01_k».proof.Proof.Trip

@[expose] public section
set_option maxRecDepth 16384
set_option maxHeartbeats 400000
noncomputable section
namespace Cert.KernelIdeal.Run
open Cert.KernelIdeal Cert.KernelIdeal.Gen
open Idealize.ShloMosaic Idealize.ShloMosaic.TcCoe Idealize.ShloMosaic.Tactic
open Idealize.SL Idealize.SL.Sem
variable {F : FTy → Type} [FloatOps F] [Named F]

theorem trips8 : k0_t9_loop.trips = 8 := by decide +kernel

variable (𝒱 : Variants) (c : Dev nD) (bd : Option 𝒱.V) (i : grid0.Coords) (arg3 : Memref sig .tc .smem S1 .f32) (harg3 : arg3.IsWhole) (arg4 : Memref sig .tc .vmem S2048x256 .f32) (harg4 : arg4.IsWhole) (arg5 : Memref sig .tc .vmem S1x4096x128 .bf16) (harg5 : arg5.IsWhole) (arg6 : Memref sig .tc .vmem S1x8x128x512 .bf16) (harg6 : arg6.IsWhole) (arg7 : Memref sig .tc .vmem S2048x256 .bf16) (harg7 : arg7.IsWhole) (arg8 : Memref sig .tc .vmem S8x1024x128 .bf16) (harg8 : arg8.IsWhole) (arg9 : Memref sig .tc .vmem S8x1x1024 .f32) (harg9 : arg9.IsWhole) (arg10 : Memref sig .tc .vmem S8x128x1024 .f32) (harg10 : arg10.IsWhole) (arg11 : Memref sig .tc .vmem S2x512x1024 .bf16) (harg11 : arg11.IsWhole) (v389 : Elt F .f32) (v438 : FVec F S512x256 .bf16)
  (X5 : BufTy.Contents (Elt F) arg5.view.ty) (X6 : BufTy.Contents (Elt F) arg6.view.ty) (X8 : BufTy.Contents (Elt F) arg8.view.ty) (X9 : BufTy.Contents (Elt F) arg9.view.ty)
  (G10 : BufTy.Contents (Elt F) arg10.view.ty) (G11 : BufTy.Contents (Elt F) arg11.view.ty)

/-- A column of the accumulator of subtile `u` with all eight key tiles added to `a`. -/
def total (u : Fin 8) (cc : Fin 4) (a : S1x128x256.Idx → Elt F .f32) : S1x128x256.Idx → Elt F .f32 :=
  Fin.foldl 7 (fun a j => k0_pay197 a (vtile arg6 X6 j.succ) (ptile arg5 arg8 arg9 X5 X8 X9 u j.succ cc))
    (k0_pay197 a (vtile arg6 X6 0) (ptile arg5 arg8 arg9 X5 X8 X9 u 0 cc))

/-- Before trip `n` the subtiles below `n` are done, the others as at the start, and slot 0 holds the weights of subtile
    `n` with the first key tile. -/
theorem loop_at (h0 : ∀ cc, pbox arg11 G11 cc = ptile arg5 arg8 arg9 X5 X8 X9 0 0 cc) (n : ℕ) (hn : n ≤ 8) :
    (∀ u cc, abox arg10 (arg10.view.writes (Elt F) G10 (pb_k0_t9 (F := F) 𝒱 c bd i arg3 harg3 arg4 harg4 arg5 harg5 arg6 harg6 arg7 harg7 arg8 harg8 arg9 harg9 arg10 harg10 arg11 harg11 v389 v438 X5 X6 X8 X9 G10 G11 n).1) u cc
      = if u.val < n then total arg5 arg6 arg8 arg9 X5 X6 X8 X9 u cc (abox arg10 G10 u cc) else abox arg10 G10 u cc)
    ∧ (∀ (h : n < 8) cc, pbox arg11 (arg11.view.writes (Elt F) G11 (pb_k0_t9 (F := F) 𝒱 c bd i arg3 harg3 arg4 harg4 arg5 harg5 arg6 harg6 arg7 harg7 arg8 harg8 arg9 harg9 arg10 harg10 arg11 harg11 v389 v438 X5 X6 X8 X9 G10 G11 n).2) cc
      = ptile arg5 arg8 arg9 X5 X8 X9 ⟨n, h⟩ 0 cc) := by
  induction n with
  | zero => exact ⟨fun u cc => rfl, fun h cc => h0 cc⟩
  | succ n ih =>
    obtain ⟨ha, hp⟩ := ih (by omega)
    have hk : n < k0_t9_loop.trips := by rw [trips8]; omega
    have hs := pb_k0_t9_succ (F := F) 𝒱 c bd i arg3 harg3 arg4 harg4 arg5 harg5 arg6 harg6 arg7 harg7 arg8 harg8 arg9 harg9 arg10 harg10 arg11 harg11 v389 v438 X5 X6 X8 X9 G10 G11 ⟨n, hk⟩
    have e1 := congrArg Prod.fst hs
    have e2 := congrArg Prod.snd hs
    dsimp only at e1 e2
    rw [e1, e2, View.writes_append, View.writes_append]
    refine ⟨fun u cc => ?_, fun h cc => ?_⟩
    · by_cases hu : u.val = n
      · subst hu
        refine (trip_acc 𝒱 c bd i arg3 harg3 arg4 harg4 arg5 harg5 arg6 harg6 arg7 harg7 arg8 harg8 arg9 harg9 arg10 harg10 arg11 harg11 v389 v438 X5 X6 X8 X9 ⟨u.val, hk⟩ _ _ cc).trans ?_
        rw [if_pos (Nat.lt_succ_self _), hp (by omega), ha]
        rw [if_neg (Nat.lt_irrefl _)]
        rfl
      · refine (trip_else 𝒱 c bd i arg3 harg3 arg4 harg4 arg5 harg5 arg6 harg6 arg7 harg7 arg8 harg8 arg9 harg9 arg10 harg10 arg11 harg11 v389 v438 X5 X6 X8 X9 ⟨n, hk⟩ _ _ u cc hu).trans ?_
        rw [ha]
        have : (u.val < n + 1) ↔ u.val < n := by omega
        simp only [this]
    · refine (trip_slot0 𝒱 c bd i arg3 harg3 arg4 harg4 arg5 harg5 arg6 harg6 arg7 harg7 arg8 harg8 arg9 harg9 arg10 harg10 arg11 harg11 v389 v438 X5 X6 X8 X9 ⟨n, hk⟩ _ _ cc).trans ?_
      have d1 : min (8 * n + 8) 63 / 8 = n + 1 := by omega
      have d2 : min (8 * n + 8) 63 % 8 = 0 := by omega
      have f1 : (⟨min (8 * n + 8) 63 / 8, by omega⟩ : Fin 8) = ⟨n + 1, h⟩ := Fin.ext d1
      have f2 : (⟨min (8 * n + 8) 63 % 8, by omega⟩ : Fin 8) = 0 := Fin.ext d2
      exact congrArg₂ (fun a b => ptile arg5 arg8 arg9 X5 X8 X9 a b cc) f1 f2

/-- After the loop every accumulator holds its eight key tiles. -/
theorem loop_acc (h0 : ∀ cc, pbox arg11 G11 cc = ptile arg5 arg8 arg9 X5 X8 X9 0 0 cc) (u : Fin 8) (cc : Fin 4) :
    abox arg10 (arg10.view.writes (Elt F) G10 (pb_k0_t9 (F := F) 𝒱 c bd i arg3 harg3 arg4 harg4 arg5 harg5 arg6 harg6 arg7 harg7 arg8 harg8 arg9 harg9 arg10 harg10 arg11 harg11 v389 v438 X5 X6 X8 X9 G10 G11 (Scf.trips k0_t9_loop.lb k0_t9_loop.ub k0_t9_loop.st)).1) u cc
      = total arg5 arg6 arg8 arg9 X5 X6 X8 X9 u cc (abox arg10 G10 u cc) := by
  have e : Scf.trips k0_t9_loop.lb k0_t9_loop.ub k0_t9_loop.st = 8 := trips8
  rw [e, (loop_at 𝒱 c bd i arg3 harg3 arg4 harg4 arg5 harg5 arg6 harg6 arg7 harg7 arg8 harg8 arg9 harg9 arg10 harg10 arg11 harg11 v389 v438 X5 X6 X8 X9 G10 G11 h0 8 le_rfl).1 u cc, if_pos u.isLt]

end Cert.KernelIdeal.Run
end
-- ==== Proof.Lo.lean ====
/-
  What the run of the body where the bound is not above 50 leaves in the result's block: for every subtile and pair of
  heads the quotients of the accumulators after the loop, and what the loop starts from.
-/
module

public import proofs.«01_k».proof.Proof.Loop
public import proofs.«01_k».proof.Proof.BodyRun

@[expose] public section
set_option maxRecDepth 16384
set_option maxHeartbeats 1000000
noncomputable section
namespace Cert.KernelIdeal.Run
open Cert.KernelIdeal Cert.KernelIdeal.Gen
open Idealize.ShloMosaic Idealize.ShloMosaic.TcCoe Idealize.ShloMosaic.Tactic
open Idealize.SL Idealize.SL.Sem

section Boxes2
variable {sig' : RefSig} {κ' : Kind} {sp : Space} {e : EltTy} {Val : EltTy → Type}

/-- `box_skip` on the first of two axes. -/
theorem box_skipR {d : Fin 2 → ℕ} (v : View sig' κ' sp ⟨2, d⟩ e) (f : v.ty.Contents Val) (off size off' size' : Fin 2 → ℕ) (inb : ∀ a, off a + size a ≤ d a)
    (inb' : ∀ a, off' a + size' a ≤ d a) (w : (Rect.unit (s := ⟨2, d⟩) off' size' inb').shape.Idx → Val e) (L : List (View.Piece Val ⟨2, d⟩ e))
    (h : (Nat.ble (off 0 + size 0) (off' 0) || Nat.ble (off' 0 + size' 0) (off 0)) = true) :
    v.readAt Val (Rect.unit (s := ⟨2, d⟩) off size inb).toLoadRect (v.writes Val f (⟨Rect.unit (s := ⟨2, d⟩) off' size' inb', w⟩ :: L))
      = v.readAt Val (Rect.unit (s := ⟨2, d⟩) off size inb).toLoadRect (v.writes Val f L) :=
  box_skip v f off size off' size' inb inb' w L 0 h

/-- `box_skip` on the last of two axes. -/
theorem box_skipC {d : Fin 2 → ℕ} (v : View sig' κ' sp ⟨2, d⟩ e) (f : v.ty.Contents Val) (off size off' size' : Fin 2 → ℕ) (inb : ∀ a, off a + size a ≤ d a)
    (inb' : ∀ a, off' a + size' a ≤ d a) (w : (Rect.unit (s := ⟨2, d⟩) off' size' inb').shape.Idx → Val e) (L : List (View.Piece Val ⟨2, d⟩ e))
    (h : (Nat.ble (off 1 + size 1) (off' 1) || Nat.ble (off' 1 + size' 1) (off 1)) = true) :
    v.readAt Val (Rect.unit (s := ⟨2, d⟩) off size inb).toLoadRect (v.writes Val f (⟨Rect.unit (s := ⟨2, d⟩) off' size' inb', w⟩ :: L))
      = v.readAt Val (Rect.unit (s := ⟨2, d⟩) off size inb).toLoadRect (v.writes Val f L) :=
  box_skip v f off size off' size' inb inb' w L 1 h

/-- `box_skip` on the middle one of three axes. -/
theorem box_skip1 {d : Fin 3 → ℕ} (v : View sig' κ' sp ⟨3, d⟩ e) (f : v.ty.Contents Val) (off size off' size' : Fin 3 → ℕ) (inb : ∀ a, off a + size a ≤ d a)
    (inb' : ∀ a, off' a + size' a ≤ d a) (w : (Rect.unit (s := ⟨3, d⟩) off' size' inb').shape.Idx → Val e) (L : List (View.Piece Val ⟨3, d⟩ e))
    (h : (Nat.ble (off 1 + size 1) (off' 1) || Nat.ble (off' 1 + size' 1) (off 1)) = true) :
    v.readAt Val (Rect.unit (s := ⟨3, d⟩) off size inb).toLoadRect (v.writes Val f (⟨Rect.unit (s := ⟨3, d⟩) off' size' inb', w⟩ :: L))
      = v.readAt Val (Rect.unit (s := ⟨3, d⟩) off size inb).toLoadRect (v.writes Val f L) :=
  box_skip v f off size off' size' inb inb' w L 1 h

/-- A box of a buffer just stored whole holds its part of what was stored. -/
theorem box_full {s : Shape} (v : View sig' κ' sp s e) (f : v.ty.Contents Val) (off size off' : Fin s.rank → ℕ) (inb : ∀ a, off a + size a ≤ s.size a)
    (inb' : ∀ a, off' a + s.size a ≤ s.size a) (w : (Rect.unit off' s.size inb').shape.Idx → Val e) (L : List (View.Piece Val s e))
    (r : Val e) (hw : ∀ x, w x = r) :
    v.readAt Val (Rect.unit off size inb).toLoadRect (v.writes Val f (⟨Rect.unit off' s.size inb', w⟩ :: L)) = fun _ => r := by
  obtain rfl : off' = fun _ => 0 := funext fun a => by have := inb' a; omega
  have e0 := View.readAt_writes_full v f (off := fun _ => 0) (fun a => by simp) inb' w L
  funext x
  have h := congrFun e0 (fun a => ⟨off a + (x a).val, by have := inb a; have := (x a).isLt; simp only [Rect.unit] at this ⊢; omega⟩)
  rw [View.readAt_apply] at h ⊢
  rw [← hw]
  refine Eq.trans (congrArg _ ?_) h
  funext a; apply Fin.ext; simp [LoadRect.idx, Rect.toLoadRect, Rect.unit]

variable [∀ e, Nonempty (Val e)]

/-- A covered load after two runs of stores reads what the second leaves over the first. -/
theorem cov_append {s : Shape} (v : View sig' κ' sp s e) (L L' : List (View.Piece Val s e)) (B : LoadRect s) :
    v.readCov (L ++ L') B = v.readAt Val B (v.writes Val (v.writes Val v.junk L') L) := by
  rw [← View.writes_append]; rfl

end Boxes2

variable {F : FTy → Type} [FloatOps F] [Named F]

/-- The rows of the queries of subtile `u` and pair of heads `j`. -/
abbrev qbox (arg4 : Memref sig .tc .vmem S2048x256 .f32) (X4 : BufTy.Contents (Elt F) arg4.view.ty) (u : Fin 8) (j : Fin 2) : S256x128.Idx → Elt F .f32 :=
  box arg4.view X4 ![256 * u.val, 128 * j.val] S256x128.size (by have := u.isLt; have := j.isLt; intro a; fin_cases a <;> simp [S256x128, S2048x256] <;> omega)

/-- The same rows of the result. -/
abbrev obox (arg7 : Memref sig .tc .vmem S2048x256 .bf16) (f : BufTy.Contents (Elt F) arg7.view.ty) (u : Fin 8) (j : Fin 2) : S256x128.Idx → Elt F .bf16 :=
  box arg7.view f ![256 * u.val, 128 * j.val] S256x128.size (by have := u.isLt; have := j.isLt; intro a; fin_cases a <;> simp [S256x128, S2048x256] <;> omega)

/-- The accumulator of subtile `u`. -/
abbrev arow (arg10 : Memref sig .tc .vmem S8x128x1024 .f32) (f : BufTy.Contents (Elt F) arg10.view.ty) (u : Fin 8) : S1x128x1024.Idx → Elt F .f32 :=
  box arg10.view f ![u.val, 0, 0] S1x128x1024.size (by have := u.isLt; intro a; fin_cases a <;> simp [S1x128x1024, S8x128x1024] <;> omega)

/-- The shifts of subtile `u`. -/
abbrev crow (arg9 : Memref sig .tc .vmem S8x1x1024 .f32) (f : BufTy.Contents (Elt F) arg9.view.ty) (u : Fin 8) : S1x1x1024.Idx → Elt F .f32 :=
  box arg9.view f ![u.val, 0, 0] S1x1x1024.size (by have := u.isLt; intro a; fin_cases a <;> simp [S1x1x1024, S8x1x1024] <;> omega)

/-- The queries scaled, with the lanes of the head `cc` kept. -/
abbrev qmask (cc : Fin 4) (x : S256x128.Idx → Elt F .f32) : S1x256x128.Idx → Elt F .bf16 :=
  if cc.val % 2 = 0 then k0_pay186 (iota .tc S256x128 32 [1] iota_S256x128_d1_w32) x else k0_pay185 (iota .tc S256x128 32 [1] iota_S256x128_d1_w32) x

/-- The quotients of an accumulator, for a pair of heads. -/
abbrev quot (j : Fin 2) (r : S1x128x1024.Idx → Elt F .f32) : S256x128.Idx → Elt F .bf16 := if j.val = 0 then k0_pay2 r else k0_pay3 r

section Out
variable (𝒱 : Variants) (c : Dev nD) (bd : Option 𝒱.V) (i : grid0.Coords) (arg3 : Memref sig .tc .smem S1 .f32) (harg3 : arg3.IsWhole) (arg4 : Memref sig .tc .vmem S2048x256 .f32) (harg4 : arg4.IsWhole) (arg5 : Memref sig .tc .vmem S1x4096x128 .bf16) (harg5 : arg5.IsWhole) (arg6 : Memref sig .tc .vmem S1x8x128x512 .bf16) (harg6 : arg6.IsWhole) (arg7 : Memref sig .tc .vmem S2048x256 .bf16) (harg7 : arg7.IsWhole) (arg8 : Memref sig .tc .vmem S8x1024x128 .bf16) (harg8 : arg8.IsWhole) (arg9 : Memref sig .tc .vmem S8x1x1024 .f32) (harg9 : arg9.IsWhole) (arg10 : Memref sig .tc .vmem S8x128x1024 .f32) (harg10 : arg10.IsWhole) (arg11 : Memref sig .tc .vmem S2x512x1024 .bf16) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty)
   (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)

abbrev bnd : Elt F .f32 := arg3.view.readAt (Elt F) (Rect.unit (s := S1) ![0] S1.size inb_S1_S1_0).toLoadRect X3 (Shape.Idx.first (s := S1) (numel1_S1.symm ▸ Nat.one_pos))

/-- The scaled and masked queries, as the run leaves them. -/
abbrev loG8 : BufTy.Contents (Elt F) arg8.view.ty := arg8.view.writes (Elt F) arg8.view.junk (runLo.sl.H8_32 arg4 X4)
/-- The shifts: the bound, everywhere. -/
abbrev loG9 : BufTy.Contents (Elt F) arg9.view.ty := arg9.view.writes (Elt F) arg9.view.junk (runLo.sl.H9_1 arg3 X3)
/-- The accumulators at the loop's start: zero. -/
abbrev loG10 : BufTy.Contents (Elt F) arg10.view.ty :=
  arg10.view.writes (Elt F) arg10.view.junk [⟨Rect.unit (s := S8x128x1024) ![0, 0, 0] S8x128x1024.size inb_S8x128x1024_S8x128x1024_0_0_0, runLo.sl.v388⟩]
open runLo.sl in
/-- The weights at the loop's start: those of the first stage, in slot 0. -/
abbrev loG11 : BufTy.Contents (Elt F) arg11.view.ty := arg11.view.writes (Elt F) f11 [⟨Rect.unit (s := S2x512x1024) ![0, 0, 768] S1x512x256.size inb_S2x512x1024_S1x512x256_0_0_768, k0_pay196 (arg5.view.readAt (Elt F) (Rect.unit (s := S1x4096x128) ![0, 0, 0] S1x512x128.size inb_S1x4096x128_S1x512x128_0_0_0).toLoadRect X5) (v446 arg4 arg8 X4) (v449 arg3 arg9 X3)⟩, ⟨Rect.unit (s := S2x512x1024) ![0, 0, 512] S1x512x256.size inb_S2x512x1024_S1x512x256_0_0_512, k0_pay195 (v438 arg3 arg4 arg5 arg8 arg9 X3 X4 X5)⟩, ⟨Rect.unit (s := S2x512x1024) ![0, 0, 256] S1x512x256.size inb_S2x512x1024_S1x512x256_0_0_256, v425 arg3 arg4 arg5 arg8 arg9 X3 X4 X5⟩, ⟨Rect.unit (s := S2x512x1024) ![0, 0, 0] S1x512x256.size inb_S2x512x1024_S1x512x256_0_0_0, v409 arg3 arg4 arg5 arg8 arg9 X3 X4 X5⟩]

open runLo.sl in
theorem lo_q (u : Fin 8) (cc : Fin 4) : qtile arg8 (loG8 arg4 arg8 X4) u cc = qmask cc (qbox arg4 X4 u ⟨cc.val / 2, by omega⟩) := by
  obtain rfl | rfl | rfl | rfl | rfl | rfl | rfl | rfl : u = 0 ∨ u = 1 ∨ u = 2 ∨ u = 3 ∨ u = 4 ∨ u = 5 ∨ u = 6 ∨ u = 7 := by omega
  all_goals
    obtain rfl | rfl | rfl | rfl : cc = 0 ∨ cc = 1 ∨ cc = 2 ∨ cc = 3 := by omega
    all_goals
      simp (disch := first | rfl | decide) only [loG8, qtile, box, box_same, box_skip0, box_skip1,
      H8_32, r, r_1, r_2, r_3, r_4, r_5, r_6, r_7, r_8, r_9, v384, v381, v377, v376, v375, v378, v380, cst_81, cst_234]
      rfl

theorem lo_c (u : Fin 8) (cc : Fin 4) : ctile arg9 (loG9 arg3 arg9 X3) u cc = fun _ => bnd arg3 X3 := by
  unfold loG9 runLo.sl.H9_1
  exact box_full _ _ _ _ _ _ _ _ _ _ fun _ => rfl

theorem lo_a (u : Fin 8) (cc : Fin 4) : abox (F := F) arg10 (loG10 arg10) u cc = fun _ => FloatOps.ofBits .f32 0#32 :=
  box_full _ _ _ _ _ _ _ _ _ _ fun _ => rfl

theorem lo_p (cc : Fin 4) : pbox arg11 (loG11 arg3 arg4 arg5 arg8 arg9 arg11 X3 X4 X5 f11) cc = ptile arg5 arg8 arg9 X5 (loG8 arg4 arg8 X4) (loG9 arg3 arg9 X3) 0 0 cc := by
  obtain rfl | rfl | rfl | rfl : cc = 0 ∨ cc = 1 ∨ cc = 2 ∨ cc = 3 := by omega
  all_goals
    simp (disch := first | rfl | decide) only [loG11, pbox, box, box_same, box_skip2]
    rfl

open runLo.sl in
/-- The result's block. -/
theorem lo_out (hc : ¬ big (bnd arg3 X3) = 1#1) (u : Fin 8) (j : Fin 2) :
    obox arg7 (arg7.view.writes (Elt F) f7 ((runLo (F := F) 𝒱 c bd i arg3 harg3 arg4 harg4 arg5 harg5 arg6 harg6 arg7 harg7 arg8 harg8 arg9 harg9 arg10 harg10 arg11 harg11 X3 X4 X5 X6 hc).1 f8 f9 f10 f11)) u j
      = quot j (arow arg10 (arg10.view.writes (Elt F) (loG10 arg10) (pb_k0_t9 (F := F) 𝒱 c bd i arg3 harg3 arg4 harg4 arg5 harg5 arg6 harg6 arg7 harg7 arg8 harg8 arg9 harg9 arg10 harg10 arg11 harg11 (r_10 arg3 X3) (v438 arg3 arg4 arg5 arg8 arg9 X3 X4 X5) X5 X6
        (loG8 arg4 arg8 X4) (loG9 arg3 arg9 X3) (loG10 arg10) (loG11 arg3 arg4 arg5 arg8 arg9 arg11 X3 X4 X5 f11) (Scf.trips k0_t9_loop.lb k0_t9_loop.ub k0_t9_loop.st)).1) u) := by
  delta runLo
  dsimp only
  obtain rfl | rfl | rfl | rfl | rfl | rfl | rfl | rfl : u = 0 ∨ u = 1 ∨ u = 2 ∨ u = 3 ∨ u = 4 ∨ u = 5 ∨ u = 6 ∨ u = 7 := by omega
  all_goals
    obtain rfl | rfl : j = 0 ∨ j = 1 := by omega
    all_goals simp (disch := first | rfl | decide) only [obox, box, box_same, box_skipR, box_skipC]
  · exact Eq.trans (b := quot 0 (v462 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v462 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v480 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v480 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v498 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v498 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v516 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v516 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v534 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v534 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v552 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v552 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v570 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v570 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))

end Out
end Cert.KernelIdeal.Run
end
-- ==== Proof.Hi.lean ====
/-
  What the run of the body where the bound is above 50 leaves in the result's block: for every subtile and pair of
  heads the quotients of the accumulators after the loop, and what the loop starts from.
-/
module

public import proofs.«01_k».proof.Proof.Lo
public import proofs.«01_k».proof.Proof.Pays

@[expose] public section
set_option maxRecDepth 16384
set_option maxHeartbeats 1000000
noncomputable section
namespace Cert.KernelIdeal.Run
open Cert.KernelIdeal Cert.KernelIdeal.Gen
open Idealize.ShloMosaic Idealize.ShloMosaic.TcCoe Idealize.ShloMosaic.Tactic
open Idealize.SL Idealize.SL.Sem

section Boxes3
variable {sig' : RefSig} {κ' : Kind} {sp : Space} {e : EltTy} {Val : EltTy → Type} {s : Shape}

/-- Two boxes of a view agree where they name the same place. -/
theorem box_sub (v : View sig' κ' sp s e) (f : v.ty.Contents Val) (off size off' size' : Fin s.rank → ℕ) (inb : ∀ a, off a + size a ≤ s.size a)
    (inb' : ∀ a, off' a + size' a ≤ s.size a) (x : (Rect.unit off size inb).shape.Idx) (y : (Rect.unit off' size' inb').shape.Idx)
    (h : ∀ a, off a + (x a).val = off' a + (y a).val) : box v f off size inb x = box v f off' size' inb' y := by
  rw [box, box, View.readAt_apply, View.readAt_apply]
  refine congrArg _ (funext fun a => Fin.ext ?_)
  simpa [LoadRect.idx, Rect.toLoadRect, Rect.unit] using h a

end Boxes3

variable {F : FTy → Type} [FloatOps F] [Named F]

section Out
variable (𝒱 : Variants) (c : Dev nD) (bd : Option 𝒱.V) (i : grid0.Coords) (arg3 : Memref sig .tc .smem S1 .f32) (harg3 : arg3.IsWhole) (arg4 : Memref sig .tc .vmem S2048x256 .f32) (harg4 : arg4.IsWhole) (arg5 : Memref sig .tc .vmem S1x4096x128 .bf16) (harg5 : arg5.IsWhole) (arg6 : Memref sig .tc .vmem S1x8x128x512 .bf16) (harg6 : arg6.IsWhole) (arg7 : Memref sig .tc .vmem S2048x256 .bf16) (harg7 : arg7.IsWhole) (arg8 : Memref sig .tc .vmem S8x1024x128 .bf16) (harg8 : arg8.IsWhole) (arg9 : Memref sig .tc .vmem S8x1x1024 .f32) (harg9 : arg9.IsWhole) (arg10 : Memref sig .tc .vmem S8x128x1024 .f32) (harg10 : arg10.IsWhole) (arg11 : Memref sig .tc .vmem S2x512x1024 .bf16) (harg11 : arg11.IsWhole)
    (X3 : BufTy.Contents (Elt F) arg3.view.ty) (X4 : BufTy.Contents (Elt F) arg4.view.ty) (X5 : BufTy.Contents (Elt F) arg5.view.ty) (X6 : BufTy.Contents (Elt F) arg6.view.ty)
   (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty)

/-- The scaled and masked queries, as the run leaves them. -/
abbrev hiG8 : BufTy.Contents (Elt F) arg8.view.ty := arg8.view.writes (Elt F) arg8.view.junk (runHi.sl.H8_32 arg4 X4)
/-- The shifts: the running maxima after the last key tile. -/
abbrev hiG9 : BufTy.Contents (Elt F) arg9.view.ty := arg9.view.writes (Elt F) arg9.view.junk (runHi.sl.H9_9 (F := F) 𝒱 c bd i arg3 harg3 arg4 harg4 arg5 harg5 arg6 harg6 arg7 harg7 arg8 harg8 arg9 harg9 arg10 harg10 arg11 harg11 X3 X4 X5)
/-- The accumulators at the loop's start: zero. -/
abbrev hiG10 : BufTy.Contents (Elt F) arg10.view.ty := arg10.view.writes (Elt F) arg10.view.junk runHi.sl.H10_1
open runHi.sl in
/-- The weights at the loop's start: those of the first stage, in slot 0. -/
abbrev hiG11 : BufTy.Contents (Elt F) arg11.view.ty := arg11.view.writes (Elt F) f11
  (⟨Rect.unit (s := S2x512x1024) ![0, 0, 768] S1x512x256.size inb_S2x512x1024_S1x512x256_0_0_768, v717 (F := F) 𝒱 c bd i arg3 harg3 arg4 harg4 arg5 harg5 arg6 harg6 arg7 harg7 arg8 harg8 arg9 harg9 arg10 harg10 arg11 harg11 X3 X4 X5⟩ :: H11_7 (F := F) 𝒱 c bd i arg3 harg3 arg4 harg4 arg5 harg5 arg6 harg6 arg7 harg7 arg8 harg8 arg9 harg9 arg10 harg10 arg11 harg11 X3 X4 X5)

open runHi.sl in
theorem hi_q (u : Fin 8) (cc : Fin 4) : qtile arg8 (hiG8 arg4 arg8 X4) u cc = qmask cc (qbox arg4 X4 u ⟨cc.val / 2, by omega⟩) := by
  obtain rfl | rfl | rfl | rfl | rfl | rfl | rfl | rfl : u = 0 ∨ u = 1 ∨ u = 2 ∨ u = 3 ∨ u = 4 ∨ u = 5 ∨ u = 6 ∨ u = 7 := by omega
  all_goals
    obtain rfl | rfl | rfl | rfl : cc = 0 ∨ cc = 1 ∨ cc = 2 ∨ cc = 3 := by omega
    all_goals
      simp (disch := first | rfl | decide) only [hiG8, qtile, box, box_same, box_skip0, box_skip1,
      H8_32, r, r_1, r_2, r_3, r_4, r_5, r_6, r_7, r_8, r_9, v384, v381, v377, v376, v375, v378, v380, cst_81, cst_234]
      rfl

theorem hi_a (u : Fin 8) (cc : Fin 4) : abox (F := F) arg10 (hiG10 arg10) u cc = fun _ => FloatOps.ofBits .f32 0#32 := by
  unfold hiG10 runHi.sl.H10_1
  exact box_full _ _ _ _ _ _ _ _ _ _ fun _ => rfl

open runHi.sl in
theorem hi_p (cc : Fin 4) : pbox arg11 (hiG11 (F := F) 𝒱 c bd i arg3 harg3 arg4 harg4 arg5 harg5 arg6 harg6 arg7 harg7 arg8 harg8 arg9 harg9 arg10 harg10 arg11 harg11 X3 X4 X5 f11) cc = ptile arg5 arg8 arg9 X5 (hiG8 arg4 arg8 X4) (hiG9 (F := F) 𝒱 c bd i arg3 harg3 arg4 harg4 arg5 harg5 arg6 harg6 arg7 harg7 arg8 harg8 arg9 harg9 arg10 harg10 arg11 harg11 X3 X4 X5) 0 0 cc := by
  obtain rfl | rfl | rfl | rfl : cc = 0 ∨ cc = 1 ∨ cc = 2 ∨ cc = 3 := by omega
  all_goals
    simp (disch := first | rfl | decide) only [hiG11, pbox, box, H11_7, H11_6, H11_5, box_same, box_skip2]
    rfl

open runHi.sl in
/-- The result's block. -/
theorem hi_out (hc : big (bnd arg3 X3) = 1#1) (u : Fin 8) (j : Fin 2) :
    obox arg7 (arg7.view.writes (Elt F) f7 ((runHi (F := F) 𝒱 c bd i arg3 harg3 arg4 harg4 arg5 harg5 arg6 harg6 arg7 harg7 arg8 harg8 arg9 harg9 arg10 harg10 arg11 harg11 X3 X4 X5 X6 hc).1 f8 f9 f10 f11)) u j
      = quot j (arow arg10 (arg10.view.writes (Elt F) (hiG10 arg10) (pb_k0_t9 (F := F) 𝒱 c bd i arg3 harg3 arg4 harg4 arg5 harg5 arg6 harg6 arg7 harg7 arg8 harg8 arg9 harg9 arg10 harg10 arg11 harg11 (r_10 arg3 X3) (v438 arg3 arg4 arg5 arg8 arg9 X3 X4 X5) X5 X6
        (hiG8 arg4 arg8 X4) (hiG9 (F := F) 𝒱 c bd i arg3 harg3 arg4 harg4 arg5 harg5 arg6 harg6 arg7 harg7 arg8 harg8 arg9 harg9 arg10 harg10 arg11 harg11 X3 X4 X5) (hiG10 arg10) (hiG11 (F := F) 𝒱 c bd i arg3 harg3 arg4 harg4 arg5 harg5 arg6 harg6 arg7 harg7 arg8 harg8 arg9 harg9 arg10 harg10 arg11 harg11 X3 X4 X5 f11) (Scf.trips k0_t9_loop.lb k0_t9_loop.ub k0_t9_loop.st)).1) u) := by
  delta runHi
  dsimp only
  obtain rfl | rfl | rfl | rfl | rfl | rfl | rfl | rfl : u = 0 ∨ u = 1 ∨ u = 2 ∨ u = 3 ∨ u = 4 ∨ u = 5 ∨ u = 6 ∨ u = 7 := by omega
  all_goals
    obtain rfl | rfl : j = 0 ∨ j = 1 := by omega
    all_goals simp (disch := first | rfl | decide) only [obox, box, box_same, box_skipR, box_skipC]
  · exact Eq.trans (b := quot 0 (v462 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v462 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v480 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v480 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v498 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v498 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v516 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v516 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v534 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v534 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v552 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v552 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v570 (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v570 (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))
  · exact Eq.trans (b := quot 0 (v (F := F) 𝒱 c bd i arg3 harg3 arg4 harg4 arg5 harg5 arg6 harg6 arg7 harg7 arg8 harg8 arg9 harg9 arg10 harg10 arg11 harg11 X3 X4 X5 X6 f11)) rfl (congrArg (quot 0) (cov_append _ _ _ _))
  · exact Eq.trans (b := quot 1 (v (F := F) 𝒱 c bd i arg3 harg3 arg4 harg4 arg5 harg5 arg6 harg6 arg7 harg7 arg8 harg8 arg9 harg9 arg10 harg10 arg11 harg11 X3 X4 X5 X6 f11)) rfl (congrArg (quot 1) (cov_append _ _ _ _))

end Out

section Real
open Cert.KernelIdeal.Val
variable (𝒱 : Variants) (c : Dev nD) (bd : Option 𝒱.V) (i : grid0.Coords) (arg3 : Memref sig .tc .smem S1 .f32) (harg3 : arg3.IsWhole) (arg4 : Memref sig .tc .vmem S2048x256 .f32) (harg4 : arg4.IsWhole) (arg5 : Memref sig .tc .vmem S1x4096x128 .bf16) (harg5 : arg5.IsWhole) (arg6 : Memref sig .tc .vmem S1x8x128x512 .bf16) (harg6 : arg6.IsWhole) (arg7 : Memref sig .tc .vmem S2048x256 .bf16) (harg7 : arg7.IsWhole) (arg8 : Memref sig .tc .vmem S8x1024x128 .bf16) (harg8 : arg8.IsWhole) (arg9 : Memref sig .tc .vmem S8x1x1024 .f32) (harg9 : arg9.IsWhole) (arg10 : Memref sig .tc .vmem S8x128x1024 .f32) (harg10 : arg10.IsWhole) (arg11 : Memref sig .tc .vmem S2x512x1024 .bf16) (harg11 : arg11.IsWhole)
   (X3 : BufTy.Contents (Elt Ideal) arg3.view.ty) (X4 : BufTy.Contents (Elt Ideal) arg4.view.ty) (X5 : BufTy.Contents (Elt Ideal) arg5.view.ty)

theorem row_cast (w : FVec Ideal S1x1024 .f32) (h : S1x1024.ShapeCasts S1x1x1024) (l : Fin 1024) : shapeCast S1x1x1024 w h (ix3 0 0 l) = w (ix2 0 l) := by
  pointwise []

theorem start_real (l : Fin 1024) : IsR (broadcast S1x1024 (FloatOps.ofBits (F := Ideal) .f32 4048155338#32) (ix2 0 l)) := by
  show IsR (Ideal.ofBits .f32 4048155338#32)
  refine ⟨-(13234890 * 2 ^ 76), ?_⟩
  simp [Ideal.ofBits, Ideal.ieee]

open runHi.sl in
/-- The shifts are real numbers where the keys and the queries are. -/
theorem hi_c_real (hK : ∀ x, IsR (arg5.view.read (Elt Ideal) X5 x)) (hQ : ∀ u cc x, IsR (qtile arg8 (hiG8 (F := Ideal) arg4 arg8 X4) u cc x)) (u : Fin 8) (l : Fin 1024) :
    IsR (crow arg9 (hiG9 (F := Ideal) 𝒱 c bd i arg3 harg3 arg4 harg4 arg5 harg5 arg6 harg6 arg7 harg7 arg8 harg8 arg9 harg9 arg10 harg10 arg11 harg11 X3 X4 X5) u (ix3 0 0 l)) := by
  have hk : ∀ (off : Fin 3 → ℕ) (inb) (x), IsR (arg5.view.readAt (Elt Ideal) (Rect.unit (s := S1x4096x128) off S1x512x128.size inb).toLoadRect X5 x) := fun _ _ x => hK _
  obtain rfl | rfl | rfl | rfl | rfl | rfl | rfl | rfl : u = 0 ∨ u = 1 ∨ u = 2 ∨ u = 3 ∨ u = 4 ∨ u = 5 ∨ u = 6 ∨ u = 7 := by omega
  all_goals
    simp (disch := first | rfl | decide) only [hiG9, crow, box, H9_9, box_same, box_skip0, v611, v617, v623, v629, v635, v641, v647, v653, row_cast]
  · exact steps_real (st_k0_t1 (F := Ideal) 𝒱 c bd i arg3 harg3 arg4 harg4 arg5 harg5 arg6 harg6 arg7 harg7 arg8 harg8 arg9 harg9 arg10 harg10 arg11 harg11 X5 (hiG8 (F := Ideal) arg4 arg8 X4) v606) start_real (fun k h =>
      ⟨_, _, _, _, _, _, _, _, (st_k0_t1_succ (F := Ideal) 𝒱 c bd i arg3 harg3 arg4 harg4 arg5 harg5 arg6 harg6 arg7 harg7 arg8 harg8 arg9 harg9 arg10 harg10 arg11 harg11 X5 _ _ ⟨k, h⟩).trans (by delta tripR_k0_t1 trip_k0_t1; rfl),
        hk _ _, hk _ _, hk _ _, hk _ _, hQ 0 0, hQ 0 1, hQ 0 2, hQ 0 3⟩) 8 le_rfl l
  · exact steps_real (st_k0_t2 (F := Ideal) 𝒱 c bd i arg3 harg3 arg4 harg4 arg5 harg5 arg6 harg6 arg7 harg7 arg8 harg8 arg9 harg9 arg10 harg10 arg11 harg11 X5 (hiG8 (F := Ideal) arg4 arg8 X4) v612) start_real (fun k h =>
      ⟨_, _, _, _, _, _, _, _, (st_k0_t2_succ (F := Ideal) 𝒱 c bd i arg3 harg3 arg4 harg4 arg5 harg5 arg6 harg6 arg7 harg7 arg8 harg8 arg9 harg9 arg10 harg10 arg11 harg11 X5 _ _ ⟨k, h⟩).trans (by delta tripR_k0_t2 trip_k0_t2; rfl),
        hk _ _, hk _ _, hk _ _, hk _ _, hQ 1 0, hQ 1 1, hQ 1 2, hQ 1 3⟩) 8 le_rfl l
  · exact steps_real (st_k0_t3 (F := Ideal) 𝒱 c bd i arg3 harg3 arg4 harg4 arg5 harg5 arg6 harg6 arg7 harg7 arg8 harg8 arg9 harg9 arg10 harg10 arg11 harg11 X5 (hiG8 (F := Ideal) arg4 arg8 X4) v618) start_real (fun k h =>
      ⟨_, _, _, _, _, _, _, _, (st_k0_t3_succ (F := Ideal) 𝒱 c bd i arg3 harg3 arg4 harg4 arg5 harg5 arg6 harg6 arg7 harg7 arg8 harg8 arg9 harg9 arg10 harg10 arg11 harg11 X5 _ _ ⟨k, h⟩).trans (by delta tripR_k0_t3 trip_k0_t3; rfl),
        hk _ _, hk _ _, hk _ _, hk _ _, hQ 2 0, hQ 2 1, hQ 2 2, hQ 2 3⟩) 8 le_rfl l
  · exact steps_real (st_k0_t4 (F := Ideal) 𝒱 c bd i arg3 harg3 arg4 harg4 arg5 harg5 arg6 harg6 arg7 harg7 arg8 harg8 arg9 harg9 arg10 harg10 arg11 harg11 X5 (hiG8 (F := Ideal) arg4 arg8 X4) v624) start_real (fun k h =>
      ⟨_, _, _, _, _, _, _, _, (st_k0_t4_succ (F := Ideal) 𝒱 c bd i arg3 harg3 arg4 harg4 arg5 harg5 arg6 harg6 arg7 harg7 arg8 harg8 arg9 harg9 arg10 harg10 arg11 harg11 X5 _ _ ⟨k, h⟩).trans (by delta tripR_k0_t4 trip_k0_t4; rfl),
        hk _ _, hk _ _, hk _ _, hk _ _, hQ 3 0, hQ 3 1, hQ 3 2, hQ 3 3⟩) 8 le_rfl l
  · exact steps_real (st_k0_t5 (F := Ideal) 𝒱 c bd i arg3 harg3 arg4 harg4 arg5 harg5 arg6 harg6 arg7 harg7 arg8 harg8 arg9 harg9 arg10 harg10 arg11 harg11 X5 (hiG8 (F := Ideal) arg4 arg8 X4) v630) start_real (fun k h =>
      ⟨_, _, _, _, _, _, _, _, (st_k0_t5_succ (F := Ideal) 𝒱 c bd i arg3 harg3 arg4 harg4 arg5 harg5 arg6 harg6 arg7 harg7 arg8 harg8 arg9 harg9 arg10 harg10 arg11 harg11 X5 _ _ ⟨k, h⟩).trans (by delta tripR_k0_t5 trip_k0_t5; rfl),
        hk _ _, hk _ _, hk _ _, hk _ _, hQ 4 0, hQ 4 1, hQ 4 2, hQ 4 3⟩) 8 le_rfl l
  · exact steps_real (st_k0_t6 (F := Ideal) 𝒱 c bd i arg3 harg3 arg4 harg4 arg5 harg5 arg6 harg6 arg7 harg7 arg8 harg8 arg9 harg9 arg10 harg10 arg11 harg11 X5 (hiG8 (F := Ideal) arg4 arg8 X4) v636) start_real (fun k h =>
      ⟨_, _, _, _, _, _, _, _, (st_k0_t6_succ (F := Ideal) 𝒱 c bd i arg3 harg3 arg4 harg4 arg5 harg5 arg6 harg6 arg7 harg7 arg8 harg8 arg9 harg9 arg10 harg10 arg11 harg11 X5 _ _ ⟨k, h⟩).trans (by delta tripR_k0_t6 trip_k0_t6; rfl),
        hk _ _, hk _ _, hk _ _, hk _ _, hQ 5 0, hQ 5 1, hQ 5 2, hQ 5 3⟩) 8 le_rfl l
  · exact steps_real (st_k0_t7 (F := Ideal) 𝒱 c bd i arg3 harg3 arg4 harg4 arg5 harg5 arg6 harg6 arg7 harg7 arg8 harg8 arg9 harg9 arg10 harg10 arg11 harg11 X5 (hiG8 (F := Ideal) arg4 arg8 X4) v642) start_real (fun k h =>
      ⟨_, _, _, _, _, _, _, _, (st_k0_t7_succ (F := Ideal) 𝒱 c bd i arg3 harg3 arg4 harg4 arg5 harg5 arg6 harg6 arg7 harg7 arg8 harg8 arg9 harg9 arg10 harg10 arg11 harg11 X5 _ _ ⟨k, h⟩).trans (by delta tripR_k0_t7 trip_k0_t7; rfl),
        hk _ _, hk _ _, hk _ _, hk _ _, hQ 6 0, hQ 6 1, hQ 6 2, hQ 6 3⟩) 8 le_rfl l
  · exact steps_real (st_k0_t8 (F := Ideal) 𝒱 c bd i arg3 harg3 arg4 harg4 arg5 harg5 arg6 harg6 arg7 harg7 arg8 harg8 arg9 harg9 arg10 harg10 arg11 harg11 X5 (hiG8 (F := Ideal) arg4 arg8 X4) v648) start_real (fun k h =>
      ⟨_, _, _, _, _, _, _, _, (st_k0_t8_succ (F := Ideal) 𝒱 c bd i arg3 harg3 arg4 harg4 arg5 harg5 arg6 harg6 arg7 harg7 arg8 harg8 arg9 harg9 arg10 harg10 arg11 harg11 X5 _ _ ⟨k, h⟩).trans (by delta tripR_k0_t8 trip_k0_t8; rfl),
        hk _ _, hk _ _, hk _ _, hk _ _, hQ 7 0, hQ 7 1, hQ 7 2, hQ 7 3⟩) 8 le_rfl l

end Real
end Cert.KernelIdeal.Run
end
-- ==== Proof.Body.lean ====
/-
  The block of the result after the body, as extended reals: softmax attention of every query of the block against the
  4096 keys, in either case of the test of the bound.
-/
module

public import proofs.«01_k».proof.Proof.Hi
public import proofs.«01_k».proof.Proof.Soft

@[expose] public section
set_option maxRecDepth 16384
set_option maxHeartbeats 400000
noncomputable section
namespace Cert.KernelIdeal.Run
open Cert.KernelIdeal Cert.KernelIdeal.Gen Cert.KernelIdeal.Val
open Idealize.ShloMosaic Idealize.ShloMosaic.TcCoe Idealize.ShloMosaic.Tactic
open Idealize.SL Idealize.SL.Sem

/-- Key tiles added one after the other are their sum added. -/
theorem fold_sum (n : ℕ) (a : S1x128x256.Idx → EReal) (V : Fin n → S1x1x128x512.Idx → EReal) (P : Fin n → S1x512x256.Idx → EReal) (w : Fin 128) (r : Fin 256) :
    Fin.foldl n (fun a j => k0_pay197 (F := Ideal) a (V j) (P j)) a (ix3 0 w r) = a (ix3 0 w r) + ∑ j, ∑ s : Fin 512, V j (ix4 0 0 w s) * P j (ix3 0 s r) := by
  induction n with
  | zero => simp
  | succ n ih =>
    rw [Fin.foldl_succ_last, pay197_at, ih (fun j => V j.castSucc) (fun j => P j.castSucc), add_assoc]
    congr 1
    exact (Fin.sum_univ_castSucc (f := fun j : Fin (n + 1) => ∑ s : Fin 512, V j (ix4 0 0 w s) * P j (ix3 0 s r))).symm

/-- The keys against the scaled queries of one head of a pair: the other head's lanes are zero. -/
theorem lanes (cc : Fin 4) (x : S256x128.Idx → EReal) (r : Fin 256) (K : Fin 128 → EReal) (k : Fin 64 → ℝ) (q : Fin 64 → ℝ)
    (hK : ∀ l : Fin 128, K l = (k ⟨l.val % 64, by omega⟩ : EReal)) (hx : ∀ d : Fin 64, x (ix2 r ⟨64 * (cc.val % 2) + d.val, by omega⟩) = (q d : EReal)) :
    ∑ l : Fin 128, K l * qmask (F := Ideal) cc x (ix3 0 r l) = (((∑ d, k d * q d) * (8 * Real.log 2)⁻¹ : ℝ) : EReal) := by
  have hs : (((∑ d, k d * q d) * (8 * Real.log 2)⁻¹ : ℝ) : EReal) = ∑ d, (k d : EReal) * ((q d : EReal) * (scale : EReal)) := by
    rw [Finset.sum_mul, ← Soft.coe_sum]
    exact Finset.sum_congr rfl fun d _ => by rw [mul_assoc, EReal.coe_mul, EReal.coe_mul]; rfl
  rw [hs, Fin.sum_univ_tiles 2 64 rfl, Fin.sum_univ_two]
  have m0 : ∀ t : Fin 64, (0 * 64 + t.val) % 64 = t.val := fun t => by omega
  have m1 : ∀ t : Fin 64, (1 * 64 + t.val) % 64 = t.val := fun t => by omega
  have em : ∀ l : Fin 128, qmask (F := Ideal) cc x (ix3 0 r l) = if l.val / 64 = cc.val % 2 then x (ix2 r l) * (scale : EReal) else 0 := fun l => by
    by_cases h : cc.val % 2 = 0
    · rw [qmask, if_pos h]; refine (pay186_at x r l).trans ?_
      by_cases hl : l.val < 64
      · rw [if_pos hl, if_pos (by omega)]
      · rw [if_neg hl, if_neg (by omega)]
    · rw [qmask, if_neg h]; refine (pay185_at x r l).trans ?_
      by_cases hl : l.val < 64
      · rw [if_pos hl, if_neg (by omega)]
      · rw [if_neg hl, if_pos (by omega)]
  simp only [em, hK, Fin.val_zero, Fin.val_one]
  have d0 : ∀ t : Fin 64, (0 * 64 + t.val) / 64 = 0 := fun t => by omega
  have d1 : ∀ t : Fin 64, (1 * 64 + t.val) / 64 = 1 := fun t => by omega
  simp only [m0, m1, d0, d1]
  by_cases h : cc.val % 2 = 0
  · simp only [h] at hx
    simp [h, ← hx]
  · have h' : cc.val % 2 = 1 := by omega
    simp only [h'] at hx
    simp [h', ← hx]

section Block
variable (arg4 : Memref sig .tc .vmem S2048x256 .f32) (harg4 : arg4.IsWhole) (arg5 : Memref sig .tc .vmem S1x4096x128 .bf16) (harg5 : arg5.IsWhole) (arg6 : Memref sig .tc .vmem S1x8x128x512 .bf16) (harg6 : arg6.IsWhole) (arg7 : Memref sig .tc .vmem S2048x256 .bf16) (harg7 : arg7.IsWhole) (arg8 : Memref sig .tc .vmem S8x1024x128 .bf16) (harg8 : arg8.IsWhole) (arg9 : Memref sig .tc .vmem S8x1x1024 .f32) (harg9 : arg9.IsWhole) (arg10 : Memref sig .tc .vmem S8x128x1024 .f32) (harg10 : arg10.IsWhole) (arg11 : Memref sig .tc .vmem S2x512x1024 .bf16) (harg11 : arg11.IsWhole)
   (X4 : BufTy.Contents (Elt Ideal) arg4.view.ty) (X5 : BufTy.Contents (Elt Ideal) arg5.view.ty) (X6 : BufTy.Contents (Elt Ideal) arg6.view.ty)
   (X8 : BufTy.Contents (Elt Ideal) arg8.view.ty) (X9 : BufTy.Contents (Elt Ideal) arg9.view.ty) (G : BufTy.Contents (Elt Ideal) arg10.view.ty) (g : BufTy.Contents (Elt Ideal) arg7.view.ty)
   (q : Fin 2048 → Fin 256 → ℝ) (k : Fin 4096 → Fin 64 → ℝ) (v : Fin 4096 → Fin 64 → EReal)

/-- An accumulator after the loop: the sum over all keys. -/
theorem acc_at
    (hq : ∀ p l, arg4.view.read (Elt Ideal) X4 (ix2 p l) = (q p l : EReal))
    (hk : ∀ s (l : Fin 128), arg5.view.read (Elt Ideal) X5 (ix3 0 s l) = (k s ⟨l.val % 64, by omega⟩ : EReal))
    (h8 : ∀ u cc, qtile (F := Ideal) arg8 X8 u cc = qmask (F := Ideal) cc (qbox arg4 X4 u ⟨cc.val / 2, by omega⟩))
    (ha : ∀ u cc, abox arg10 G u cc = total (F := Ideal) arg5 arg6 arg8 arg9 X5 X6 X8 X9 u cc (fun _ => FloatOps.ofBits (F := Ideal) .f32 0#32))
    (u : Fin 8) (cc : Fin 4) (w : Fin 128) (r : Fin 256) :
    arow arg10 G u (ix3 0 w ⟨256 * cc.val + r.val, by omega⟩)
      = ∑ s : Fin 4096, arg6.view.read (Elt Ideal) X6 (ix4 0 ⟨s.val / 512, by omega⟩ w ⟨s.val % 512, by omega⟩)
          * Ideal.exp2 ((((∑ d, k s d * q ⟨256 * u.val + r.val, by omega⟩ ⟨64 * cc.val + d.val, by omega⟩) * (8 * Real.log 2)⁻¹ : ℝ) : EReal)
              - crow arg9 X9 u (ix3 0 0 ⟨256 * cc.val + r.val, by omega⟩)) := by
  rw [show arow arg10 G u (ix3 0 w ⟨256 * cc.val + r.val, by omega⟩) = abox arg10 G u cc (ix3 0 w r) from
    box_sub _ _ _ _ _ _ _ _ _ _ (fun a => by fin_cases a <;> simp), ha, total, fold_sum, pay197_at, add_assoc,
    ← Fin.sum_univ_succ (f := fun j : Fin 8 => ∑ s : Fin 512, vtile arg6 X6 j (ix4 0 0 w s) * ptile (F := Ideal) arg5 arg8 arg9 X5 X8 X9 u j cc (ix3 0 s r)),
    show (FloatOps.ofBits (F := Ideal) .f32 0#32 : EReal) = 0 from by simp [FloatOps.ofBits, Ideal.ofBits, Ideal.ieee], zero_add,
    Fin.sum_univ_tiles 8 512 rfl]
  refine Finset.sum_congr rfl fun j _ => Finset.sum_congr rfl fun s _ => ?_
  rw [ptile, pay196_at, h8]
  refine congrArg₂ _ ?_ (congrArg Ideal.exp2 (congrArg₂ _ ?_ ?_))
  · rw [vtile, box, View.readAt_apply]
    refine congrArg _ (funext fun a => Fin.ext ?_)
    fin_cases a <;> simp [LoadRect.idx, Rect.toLoadRect, Rect.unit] <;> omega
  · refine lanes cc _ r _ (k ⟨j.val * 512 + s.val, by omega⟩) _ (fun l => ?_) (fun d => ?_)
    · rw [← hk, ktile, box, View.readAt_apply]
      refine congrArg _ (funext fun a => Fin.ext ?_)
      fin_cases a <;> simp [LoadRect.idx, Rect.toLoadRect, Rect.unit] <;> omega
    · rw [← hq, qbox, box, View.readAt_apply]
      refine congrArg _ (funext fun a => Fin.ext ?_)
      fin_cases a <;> simp [LoadRect.idx, Rect.toLoadRect, Rect.unit] <;> omega
  · exact box_sub _ _ _ _ _ _ _ _ _ _ (fun a => by fin_cases a <;> simp)

/-- The block of the result. -/
theorem block_at
    (hq : ∀ p l, arg4.view.read (Elt Ideal) X4 (ix2 p l) = (q p l : EReal))
    (hk : ∀ s (l : Fin 128), arg5.view.read (Elt Ideal) X5 (ix3 0 s l) = (k s ⟨l.val % 64, by omega⟩ : EReal))
    (hv : ∀ (s : Fin 4096) (w : Fin 64), arg6.view.read (Elt Ideal) X6 (ix4 0 ⟨s.val / 512, by omega⟩ ⟨w.val, by omega⟩ ⟨s.val % 512, by omega⟩) = v s w)
    (h1 : ∀ (s : Fin 4096), arg6.view.read (Elt Ideal) X6 (ix4 0 ⟨s.val / 512, by omega⟩ 64 ⟨s.val % 512, by omega⟩) = 1)
    (h8 : ∀ u cc, qtile (F := Ideal) arg8 X8 u cc = qmask (F := Ideal) cc (qbox arg4 X4 u ⟨cc.val / 2, by omega⟩))
    (h9 : ∀ u l, IsR (crow arg9 X9 u (ix3 0 0 l)))
    (ha : ∀ u cc, abox arg10 G u cc = total (F := Ideal) arg5 arg6 arg8 arg9 X5 X6 X8 X9 u cc (fun _ => FloatOps.ofBits (F := Ideal) .f32 0#32))
    (ho : ∀ u j, obox arg7 g u j = quot (F := Ideal) j (arow arg10 G u)) (p : Fin 2048) (l : Fin 256) :
    arg7.view.read (Elt Ideal) g (ix2 p l) = Soft.att k (fun s => v s ⟨l.val % 64, by omega⟩) (fun d => q p ⟨64 * (l.val / 64) + d.val, by omega⟩) := by
  have hb : arg7.view.read (Elt Ideal) g (ix2 p l) = obox arg7 g ⟨p.val / 256, by omega⟩ ⟨l.val / 128, by omega⟩ (ix2 ⟨p.val % 256, by omega⟩ ⟨l.val % 128, by omega⟩) := by
    rw [obox, box, View.readAt_apply]
    refine congrArg _ (funext fun a => Fin.ext ?_)
    fin_cases a <;> simp [LoadRect.idx, Rect.toLoadRect, Rect.unit] <;> omega
  obtain ⟨c, hc⟩ := h9 ⟨p.val / 256, by omega⟩ ⟨256 * (l.val / 64) + p.val % 256, by omega⟩
  have key := fun w => acc_at arg4 arg5 arg6 arg8 arg9 arg10 X4 X5 X6 X8 X9 G q k hq hk h8 ha ⟨p.val / 256, by omega⟩ ⟨l.val / 64, by omega⟩ w ⟨p.val % 256, by omega⟩
  have hp : 256 * (p.val / 256) + p.val % 256 = p.val := by omega
  simp only [hp, hc] at key
  have fin : Ideal.div (arow arg10 G ⟨p.val / 256, by omega⟩ (ix3 0 ⟨l.val % 64, by omega⟩ ⟨256 * (l.val / 64) + p.val % 256, by omega⟩))
      (arow arg10 G ⟨p.val / 256, by omega⟩ (ix3 0 64 ⟨256 * (l.val / 64) + p.val % 256, by omega⟩))
      = Soft.att k (fun s => v s ⟨l.val % 64, by omega⟩) (fun d => q p ⟨64 * (l.val / 64) + d.val, by omega⟩) := by
    rw [key, key]
    simp only [h1, hv _ ⟨l.val % 64, by omega⟩]
    exact Soft.att_exp2 (by norm_num) k _ _ c
  rw [hb, ho, ← fin]
  by_cases h : l.val < 128
  · have e : l.val / 128 = 0 := by omega
    have e2 : l.val % 128 = l.val := by omega
    simp only [quot, e, if_pos, pay2_at, e2]
  · have e : l.val / 128 = 1 := by omega
    have e2 : l.val % 128 % 64 = l.val % 64 := by omega
    have e3 : 512 + 256 * (l.val % 128 / 64) + p.val % 256 = 256 * (l.val / 64) + p.val % 256 := by omega
    simp only [quot, e, one_ne_zero, if_false, pay3_at, e2, e3]
end Block
end Cert.KernelIdeal.Run
end
-- ==== Proof.BodyVal.lean ====
/-
  The body's value: from real queries and keys, in either case of its test of the bound, the result's block holds the
  softmax attention of its queries.
-/
module

public import proofs.«01_k».proof.Proof.Body
public import proofs.«01_k».proof.Proof.AnyRun

@[expose] public section
set_option maxRecDepth 16384
set_option maxHeartbeats 800000
noncomputable section
namespace Cert.KernelIdeal.Run
open Cert.KernelIdeal Cert.KernelIdeal.Gen Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt Ideal) ℕ (UR sig nD τ) ℕ

/-- An infinite bound is above 50. -/
theorem big_top : big (F := Ideal) (⊤ : EReal) = 1#1 := by
  have : Ideal.cmp .ogt (⊤ : EReal) (Ideal.ofBits .f32 0x42480000#32) = 1#1 := by
    have e : Ideal.ofBits .f32 0x42480000#32 = ((13107200 * (2 ^ 18)⁻¹ : ℝ) : EReal) := by simp [Ideal.ofBits, Ideal.ieee]
    rw [e]; simp only [Ideal.cmp, EReal.coe_lt_top, decide_true, gt_iff_lt]; rfl
  show Scalar.cmpi .ne ((Scalar.extui (Ideal.cmp .ogt (⊤ : EReal) (Ideal.ofBits .f32 0x42480000#32)) : BitVec 32)) 0#32 = 1#1
  rw [this]; decide

theorem qmask_real (cc : Fin 4) (x : S256x128.Idx → EReal) (hx : ∀ r l, IsR (x (ix2 r l))) (y) : IsR (qmask (F := Ideal) cc x y) := by
  have h0 : y 0 = (0 : Fin 1) := Subsingleton.elim (α := Fin 1) _ _
  have hy : y = ix3 0 (y 1) (y 2) := (eq_ix3 y).trans (congrArg (fun a : Fin 1 => ix3 a (y 1) (y 2)) h0)
  rw [hy]
  have z : IsR (0 : EReal) := ⟨0, by simp⟩
  by_cases h : cc.val % 2 = 0
  · rw [qmask, if_pos h]
    refine (congrArg IsR (pay186_at x (y 1) (y 2))).mpr ?_
    by_cases hl : (y 2).val < 64
    · rw [if_pos hl]; exact (hx _ _).mul ⟨scale, rfl⟩
    · rw [if_neg hl]; exact z
  · rw [qmask, if_neg h]
    refine (congrArg IsR (pay185_at x (y 1) (y 2))).mpr ?_
    by_cases hl : (y 2).val < 64
    · rw [if_pos hl]; exact z
    · rw [if_neg hl]; exact (hx _ _).mul ⟨scale, rfl⟩

/-- The body in either case, with its result. -/
theorem body_val (c : Dev nD) (i : grid0.Coords) (arg3 : Memref sig .tc .smem S1 .f32) (harg3 : arg3.IsWhole) (arg4 : Memref sig .tc .vmem S2048x256 .f32) (harg4 : arg4.IsWhole) (arg5 : Memref sig .tc .vmem S1x4096x128 .bf16) (harg5 : arg5.IsWhole) (arg6 : Memref sig .tc .vmem S1x8x128x512 .bf16) (harg6 : arg6.IsWhole) (arg7 : Memref sig .tc .vmem S2048x256 .bf16) (harg7 : arg7.IsWhole) (arg8 : Memref sig .tc .vmem S8x1024x128 .bf16) (harg8 : arg8.IsWhole) (arg9 : Memref sig .tc .vmem S8x1x1024 .f32) (harg9 : arg9.IsWhole) (arg10 : Memref sig .tc .vmem S8x128x1024 .f32) (harg10 : arg10.IsWhole) (arg11 : Memref sig .tc .vmem S2x512x1024 .bf16) (harg11 : arg11.IsWhole)
    (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty)
    (q : Fin 2048 → Fin 256 → ℝ) (k : Fin 4096 → Fin 64 → ℝ) (v : Fin 4096 → Fin 64 → EReal)
    (hb : bnd (F := Ideal) arg3 X3 ≠ (⊥ : EReal))
    (hq : ∀ p l, arg4.view.read (Elt Ideal) X4 (ix2 p l) = (q p l : EReal))
    (hk : ∀ s (l : Fin 128), arg5.view.read (Elt Ideal) X5 (ix3 0 s l) = (k s ⟨l.val % 64, by omega⟩ : EReal))
    (hv : ∀ (s : Fin 4096) (w : Fin 64), arg6.view.read (Elt Ideal) X6 (ix4 0 ⟨s.val / 512, by omega⟩ ⟨w.val, by omega⟩ ⟨s.val % 512, by omega⟩) = v s w)
    (h1 : ∀ (s : Fin 4096), arg6.view.read (Elt Ideal) X6 (ix4 0 ⟨s.val / 512, by omega⟩ 64 ⟨s.val % 512, by omega⟩) = 1) :
      iprop(Ins c arg3 arg4 arg5 arg6 X3 X4 X5 X6 ∗ at_ c arg7 f7 ∗ at_ c arg8 f8 ∗ at_ c arg9 f9 ∗ at_ c arg10 f10 ∗ at_ c arg11 f11)
      ⊢ wp frame (wpE (defs₀ (F := Ideal)) Variants.none (c : Thread nD τ) none) Set.univ (cc0_attn (F := Ideal) i arg3 harg3 arg4 harg4 arg5 harg5 arg6 harg6 arg7 harg7 arg8 harg8 arg9 harg9 arg10 harg10 arg11 harg11)
          (fun _ => (iprop(Ins c arg3 arg4 arg5 arg6 X3 X4 X5 X6 ∗ (∃ g, ⌜∀ p l, arg7.view.read (Elt Ideal) g (ix2 p l) = Soft.att k (fun s => v s ⟨l.val % 64, by omega⟩) (fun d => q p ⟨64 * (l.val / 64) + d.val, by omega⟩)⌝ ∗ at_ c arg7 g) ∗ (∃ g, at_ c arg8 g) ∗ (∃ g, at_ c arg9 g) ∗ (∃ g, at_ c arg10 g) ∗ (∃ g, at_ c arg11 g)) : sProp 𝕄G)) := by
  have weaken : ∀ L : List (View.Piece (Elt Ideal) S2048x256 .bf16),
      (∀ p l, arg7.view.read (Elt Ideal) (arg7.view.writes (Elt Ideal) f7 L) (ix2 p l) = Soft.att k (fun s => v s ⟨l.val % 64, by omega⟩) (fun d => q p ⟨64 * (l.val / 64) + d.val, by omega⟩)) →
      ((iprop(Ins c arg3 arg4 arg5 arg6 X3 X4 X5 X6 ∗ at_ c arg7 (arg7.view.writes (Elt Ideal) f7 L) ∗ (∃ g, at_ c arg8 g) ∗ (∃ g, at_ c arg9 g) ∗ (∃ g, at_ c arg10 g) ∗ (∃ g, at_ c arg11 g)) : sProp 𝕄G)
      ⊢ iprop(Ins c arg3 arg4 arg5 arg6 X3 X4 X5 X6 ∗ (∃ g, ⌜∀ p l, arg7.view.read (Elt Ideal) g (ix2 p l) = Soft.att k (fun s => v s ⟨l.val % 64, by omega⟩) (fun d => q p ⟨64 * (l.val / 64) + d.val, by omega⟩)⌝ ∗ at_ c arg7 g) ∗ (∃ g, at_ c arg8 g) ∗ (∃ g, at_ c arg9 g) ∗ (∃ g, at_ c arg10 g) ∗ (∃ g, at_ c arg11 g))) := fun L hL => by
    iintro ⟨HI, H7, HS⟩
    isplitl [HI]; · iexact HI
    isplitl [H7]
    · iexists _; isplitr; · ipureintro; exact hL
      iexact H7
    iexact HS
  by_cases hc : big (bnd (F := Ideal) arg3 X3) = 1#1
  · have hK : ∀ x, IsR (arg5.view.read (Elt Ideal) X5 x) := fun x => by
      have h0 : x 0 = (0 : Fin 1) := Subsingleton.elim (α := Fin 1) _ _
      have hx : x = ix3 0 (x 1) (x 2) := (eq_ix3 x).trans (congrArg (fun a : Fin 1 => ix3 a (x 1) (x 2)) h0)
      exact ⟨_, (congrArg _ hx).trans (hk (x 1) (x 2))⟩
    have hQ : ∀ u cc x, IsR (qtile arg8 (hiG8 (F := Ideal) arg4 arg8 X4) u cc x) := fun u cc x => by
      rw [hi_q]
      refine qmask_real cc _ (fun r l => ?_) x
      rw [qbox, box, View.readAt_apply, eq_ix2 (LoadRect.idx _ _)]
      exact ⟨_, hq _ _⟩
    refine triple_restated ((runHi Variants.none c none i arg3 harg3 arg4 harg4 arg5 harg5 arg6 harg6 arg7 harg7 arg8 harg8 arg9 harg9 arg10 harg10 arg11 harg11 X3 X4 X5 X6 hc).2 Set.univ f7 f8 f9 f10 f11) rfl .rfl fun _ => weaken _ ?_
    refine block_at arg4 arg5 arg6 arg7 arg8 arg9 arg10 X4 X5 X6 (hiG8 (F := Ideal) arg4 arg8 X4) (hiG9 (F := Ideal) Variants.none c none i arg3 harg3 arg4 harg4 arg5 harg5 arg6 harg6 arg7 harg7 arg8 harg8 arg9 harg9 arg10 harg10 arg11 harg11 X3 X4 X5) _ _ q k v hq hk hv h1 (fun u cc => hi_q (F := Ideal) arg4 arg8 X4 u cc) (fun u l => hi_c_real Variants.none c none i arg3 harg3 arg4 harg4 arg5 harg5 arg6 harg6 arg7 harg7 arg8 harg8 arg9 harg9 arg10 harg10 arg11 harg11 X3 X4 X5 hK hQ u l) (fun u cc => ?_) (fun u j => hi_out (F := Ideal) Variants.none c none i arg3 harg3 arg4 harg4 arg5 harg5 arg6 harg6 arg7 harg7 arg8 harg8 arg9 harg9 arg10 harg10 arg11 harg11 X3 X4 X5 X6 f7 f8 f9 f10 f11 hc u j)
    refine (loop_acc (F := Ideal) Variants.none c none i arg3 harg3 arg4 harg4 arg5 harg5 arg6 harg6 arg7 harg7 arg8 harg8 arg9 harg9 arg10 harg10 arg11 harg11 _ _ X5 X6 (hiG8 (F := Ideal) arg4 arg8 X4) (hiG9 (F := Ideal) Variants.none c none i arg3 harg3 arg4 harg4 arg5 harg5 arg6 harg6 arg7 harg7 arg8 harg8 arg9 harg9 arg10 harg10 arg11 harg11 X3 X4 X5) (hiG10 (F := Ideal) arg10) _ (fun cc => hi_p (F := Ideal) Variants.none c none i arg3 harg3 arg4 harg4 arg5 harg5 arg6 harg6 arg7 harg7 arg8 harg8 arg9 harg9 arg10 harg10 arg11 harg11 X3 X4 X5 f11 cc) u cc).trans ?_
    rw [hi_a]
  · refine triple_restated ((runLo Variants.none c none i arg3 harg3 arg4 harg4 arg5 harg5 arg6 harg6 arg7 harg7 arg8 harg8 arg9 harg9 arg10 harg10 arg11 harg11 X3 X4 X5 X6 hc).2 Set.univ f7 f8 f9 f10 f11) rfl .rfl fun _ => weaken _ ?_
    have hR : IsR (bnd (F := Ideal) arg3 X3) := by
      refine ⟨(bnd (F := Ideal) arg3 X3 : EReal).toReal, (EReal.coe_toReal (fun h => hc ?_) hb).symm⟩
      rw [h]; exact big_top
    refine block_at arg4 arg5 arg6 arg7 arg8 arg9 arg10 X4 X5 X6 (loG8 (F := Ideal) arg4 arg8 X4) (loG9 (F := Ideal) arg3 arg9 X3) _ _ q k v hq hk hv h1 (fun u cc => lo_q (F := Ideal) arg4 arg8 X4 u cc) (fun u l => ?_) (fun u cc => ?_) (fun u j => lo_out (F := Ideal) Variants.none c none i arg3 harg3 arg4 harg4 arg5 harg5 arg6 harg6 arg7 harg7 arg8 harg8 arg9 harg9 arg10 harg10 arg11 harg11 X3 X4 X5 X6 f7 f8 f9 f10 f11 hc u j)
    · have e : crow arg9 (loG9 (F := Ideal) arg3 arg9 X3) u = fun _ => bnd arg3 X3 := by
        unfold loG9 runLo.sl.H9_1
        exact box_full _ _ _ _ _ _ _ _ _ _ fun _ => rfl
      rw [e]; exact hR
    · refine (loop_acc (F := Ideal) Variants.none c none i arg3 harg3 arg4 harg4 arg5 harg5 arg6 harg6 arg7 harg7 arg8 harg8 arg9 harg9 arg10 harg10 arg11 harg11 _ _ X5 X6 (loG8 (F := Ideal) arg4 arg8 X4) (loG9 (F := Ideal) arg3 arg9 X3) (loG10 (F := Ideal) arg10) _ (fun cc => lo_p (F := Ideal) arg3 arg4 arg5 arg8 arg9 arg11 X3 X4 X5 f11 cc) u cc).trans ?_
      rw [lo_a]

end Cert.KernelIdeal.Run
end
-- ==== Proof.Blocks.lean ====
/-
  The blocks of the operands at a grid point, element by element, in the arguments.
-/
module

public import proofs.«01_k».proof.Proof.Gen.KernelIdeal.Frame
public import Idealize.ShloMosaic.Lib.Pipeline.ValueKit
public import Idealize.ShloMosaic.Lib.Claim

@[expose] public section
set_option maxRecDepth 16384
set_option maxHeartbeats 400000
noncomputable section
namespace Cert.KernelIdeal.Run
open Cert.KernelIdeal Cert.KernelIdeal.Gen
open Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (c : Dev nD)

/-- The blocks' places: of the grid's point `t` the batch is `t / 4`, the head of the keys `t / 2 % 2`, the half of the
    queries `t % 2`. -/
theorem idx : ∀ t : Fin cfg0.N, win0_0.index t = ![0] ∧ win0_1.index t = ![t.val / 4 * 2 + t.val % 2, t.val / 2 % 2]
    ∧ win0_2.index t = ![t.val / 2 % 2, t.val / 4, 0] ∧ win0_3.index t = ![t.val / 2 % 2, t.val / 4, 0, 0]
    ∧ win0_4.index t = ![t.val / 4 * 2 + t.val % 2, t.val / 2 % 2] :=
  (by decide +kernel : ∀ t : Fin grid0.N, _)

theorem lt16 : ∀ t : Fin cfg0.N, t.val < 16 := (by decide +kernel : ∀ t : Fin grid0.N, t.val < 16)

/-- The queries, by rows and columns. -/
def HQ (Q : FVec Ideal S4x4096x8x64 .f32) : FVec Ideal S16384x512 .f32 := shapeCast S16384x512 Q shapeCasts_S4x4096x8x64_S16384x512
/-- The keys, by heads, each key twice beside itself. -/
def HK (K : FVec Ideal S4x4096x2x64 .f32) : FVec Ideal S2x16384x128 .bf16 :=
  truncf .bf16 (concatenate S2x16384x128 2 [⟨S2x16384x64, (transpose S2x16384x64 [1, 0, 2] (shapeCast S16384x2x64 K shapeCasts_S4x4096x2x64_S16384x2x64) transposes_S16384x2x64_S2x16384x64_1_0_2 : FVec Ideal S2x16384x64 .f32)⟩,
    ⟨S2x16384x64, (transpose S2x16384x64 [1, 0, 2] (shapeCast S16384x2x64 K shapeCasts_S4x4096x2x64_S16384x2x64) transposes_S16384x2x64_S2x16384x64_1_0_2 : FVec Ideal S2x16384x64 .f32)⟩] concatenates_S2x16384x64_S2x16384x64_S2x16384x128_d2) bitsLt_bf16_f32
/-- The values, by heads and key tiles, transposed, above rows of ones. -/
def HV (V : FVec Ideal S4x4096x2x64 .f32) : FVec Ideal S2x32x128x512 .bf16 :=
  truncf .bf16 (concatenate S2x32x128x512 2 [⟨S2x32x64x512, (transpose S2x32x64x512 [2, 0, 3, 1] (shapeCast S32x512x2x64 V shapeCasts_S4x4096x2x64_S32x512x2x64) transposes_S32x512x2x64_S2x32x64x512_2_0_3_1 : FVec Ideal S2x32x64x512 .f32)⟩,
    ⟨S2x32x64x512, (broadcastInDim S2x32x64x512 ![] bcast_S_S2x32x64x512 (constant S_ .f32 0x3F800000#32) : FVec Ideal S2x32x64x512 .f32)⟩] concatenates_S2x32x64x512_S2x32x64x512_S2x32x128x512_d2) bitsLt_bf16_f32

theorem HQ_at (Q : FVec Ideal S4x4096x8x64 .f32) (r : Fin 16384) (l : Fin 512) :
    HQ Q (ix2 r l) = Q (ix4 ⟨r.val / 4096, by omega⟩ ⟨r.val % 4096, by omega⟩ ⟨l.val / 64, by omega⟩ ⟨l.val % 64, by omega⟩) := by
  pointwise [HQ]

theorem HK_at (K : FVec Ideal S4x4096x2x64 .f32) (h : Fin 2) (r : Fin 16384) (l : Fin 128) :
    HK K (ix3 h r l) = K (ix4 ⟨r.val / 4096, by omega⟩ ⟨r.val % 4096, by omega⟩ h ⟨l.val % 64, by omega⟩) := by
  pointwise [HK]
  by_cases hl : l.val < 64
  · rw [dif_pos hl]
    exact congrArg (fun d => K (ix4 _ _ h d)) (Fin.ext (Nat.mod_eq_of_lt hl).symm)
  · rw [dif_neg hl]
    exact congrArg (fun d => K (ix4 _ _ h d)) (Fin.ext (by show l.val - 64 = l.val % 64; omega))

theorem HV_at (V : FVec Ideal S4x4096x2x64 .f32) (h : Fin 2) (j : Fin 32) (w : Fin 64) (x : Fin 512) :
    HV V (ix4 h j ⟨w.val, by omega⟩ x) = V (ix4 ⟨j.val / 8, by omega⟩ ⟨j.val % 8 * 512 + x.val, by omega⟩ h w) := by
  pointwise [HV]

theorem HV_one (V : FVec Ideal S4x4096x2x64 .f32) (h : Fin 2) (j : Fin 32) (x : Fin 512) : HV V (ix4 h j 64 x) = 1 := by
  pointwise [HV]

theorem V_v0 : V m c main_v0 = HQ (m ((c : Thread nD τ).loc main_arg1)) := by
  entry_read
  rfl

theorem V_v4 : V m c main_v4 = HK (m ((c : Thread nD τ).loc main_arg2)) := by
  entry_read
  rfl

theorem V_v9 : V m c main_v9 = HV (m ((c : Thread nD τ).loc main_arg3)) := by
  entry_read
  rfl

theorem blk0_at (t : Fin cfg0.N) (y : Fin 1) : iblk m c 0 t (ix1 y) = m ((c : Thread nD τ).loc main_arg0) (ix1 0) := by
  blk_ext! [iblk, V, idx t]

theorem blk1_at (t : Fin cfg0.N) (p : Fin 2048) (l : Fin 256) : iblk m c 1 t (ix2 p l)
    = HQ (m ((c : Thread nD τ).loc main_arg1)) (ix2 ⟨(t.val / 4 * 2 + t.val % 2) * 2048 + p.val, by have := lt16 t; omega⟩ ⟨t.val / 2 % 2 * 256 + l.val, by omega⟩) := by
  rw [← V_v0 m c]
  blk_ext [iblk, idx t]

theorem blk2_at (t : Fin cfg0.N) (s : Fin 4096) (l : Fin 128) : iblk m c 2 t (ix3 0 s l)
    = HK (m ((c : Thread nD τ).loc main_arg2)) (ix3 ⟨t.val / 2 % 2, by omega⟩ ⟨t.val / 4 * 4096 + s.val, by have := lt16 t; omega⟩ l) := by
  rw [← V_v4 m c]
  blk_ext [iblk, idx t]

theorem blk3_at (t : Fin cfg0.N) (j : Fin 8) (w : Fin 128) (x : Fin 512) : iblk m c 3 t (ix4 0 j w x)
    = HV (m ((c : Thread nD τ).loc main_arg3)) (ix4 ⟨t.val / 2 % 2, by omega⟩ ⟨t.val / 4 * 8 + j.val, by have := lt16 t; omega⟩ w x) := by
  rw [← V_v9 m c]
  blk_ext [iblk, idx t]

end Cert.KernelIdeal.Run
end
-- ==== Proof.Value.lean ====
/-
  The exact run of the attention call: where the bound is above −∞ and the queries and keys are real numbers, its result
  is the softmax attention.
-/
module

public import proofs.«01_k».proof.Proof.BodyVal
public import proofs.«01_k».proof.Proof.Blocks

@[expose] public section
set_option maxRecDepth 16384
set_option maxHeartbeats 800000
noncomputable section
namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.KernelIdeal.Val (IsR)

local notation "𝕄G" => MT nD τ sig Unit (Elt Ideal) ℕ (UR sig nD τ) ℕ

/-- The attention at a row and a column of the result. -/
def ATT (Q : FVec Ideal S4x4096x8x64 .f32) (K V : FVec Ideal S4x4096x2x64 .f32) (r : Fin 16384) (l : Fin 512) : EReal :=
  Soft.att (n := 4096) (fun s d => EReal.toReal (K (ix4 ⟨r.val / 4096, by omega⟩ s ⟨l.val / 256, by omega⟩ d)))
    (fun s => V (ix4 ⟨r.val / 4096, by omega⟩ s ⟨l.val / 256, by omega⟩ ⟨l.val % 64, by omega⟩))
    (fun d => EReal.toReal (Q (ix4 ⟨r.val / 4096, by omega⟩ ⟨r.val % 4096, by omega⟩ ⟨l.val / 64, by omega⟩ d)))

/-- The bound. -/
def B0 (x : FVec Ideal S1 .f32) : EReal := x (ix1 0)

/-- The result's block at a grid point. -/
def BLK (Q : FVec Ideal S4x4096x8x64 .f32) (K V : FVec Ideal S4x4096x2x64 .f32) (t : Fin cfg0.N) : FVec Ideal S2048x256 .bf16 := fun y =>
  ATT Q K V ⟨(t.val / 4 * 2 + t.val % 2) * 2048 + (y 0).val, by have := lt16 t; have : (y 0).val < 2048 := (y 0).isLt; omega⟩
    ⟨t.val / 2 % 2 * 256 + (y 1).val, by have : (y 1).val < 256 := (y 1).isLt; omega⟩

/-- The point's queries, keys and values. -/
def qT (Q : FVec Ideal S4x4096x8x64 .f32) (t : Fin cfg0.N) (p : Fin 2048) (l : Fin 256) : ℝ :=
  EReal.toReal (HQ Q (ix2 ⟨(t.val / 4 * 2 + t.val % 2) * 2048 + p.val, by have := lt16 t; omega⟩ ⟨t.val / 2 % 2 * 256 + l.val, by omega⟩))
def kT (K : FVec Ideal S4x4096x2x64 .f32) (t : Fin cfg0.N) (s : Fin 4096) (d : Fin 64) : ℝ :=
  EReal.toReal (K (ix4 ⟨t.val / 4, by have := lt16 t; omega⟩ s ⟨t.val / 2 % 2, by omega⟩ d))
def vT (V : FVec Ideal S4x4096x2x64 .f32) (t : Fin cfg0.N) (s : Fin 4096) (w : Fin 64) : EReal :=
  V (ix4 ⟨t.val / 4, by have := lt16 t; omega⟩ s ⟨t.val / 2 % 2, by omega⟩ w)

theorem ix4_eq {a b c d : ℕ} {i i' : Fin a} {j j' : Fin b} {k k' : Fin c} {l l' : Fin d} (h1 : i.val = i'.val) (h2 : j.val = j'.val)
    (h3 : k.val = k'.val) (h4 : l.val = l'.val) : ix4 i j k l = ix4 i' j' k' l' := by
  rw [Fin.ext h1, Fin.ext h2, Fin.ext h3, Fin.ext h4]

theorem toReal_coe {x : EReal} (h : IsR x) : ((EReal.toReal x : ℝ) : EReal) = x := by
  obtain ⟨r, rfl⟩ := h; rfl

/-- What the body leaves at an element is the attention there. -/
theorem att_blk (Q : FVec Ideal S4x4096x8x64 .f32) (K V : FVec Ideal S4x4096x2x64 .f32) (t : Fin cfg0.N) (p : Fin 2048) (l : Fin 256) :
    Soft.att (kT K t) (fun s => vT V t s ⟨l.val % 64, by omega⟩) (fun d => qT Q t p ⟨64 * (l.val / 64) + d.val, by omega⟩) = BLK Q K V t (ix2 p l) := by
  have ht := lt16 t
  show _ = ATT Q K V ⟨(t.val / 4 * 2 + t.val % 2) * 2048 + p.val, by omega⟩ ⟨t.val / 2 % 2 * 256 + l.val, by omega⟩
  unfold ATT
  congr 1
  · funext s d
    exact congrArg (fun i => EReal.toReal (K i)) (ix4_eq (by dsimp only; omega) rfl (by dsimp only; omega) rfl)
  · funext s
    exact congrArg V (ix4_eq (by dsimp only; omega) rfl (by dsimp only; omega) (by dsimp only; omega))
  · funext d
    rw [qT, HQ_at]
    exact congrArg (fun i => EReal.toReal (Q i)) (ix4_eq (by dsimp only) (by dsimp only) (by dsimp only; omega) (by dsimp only; omega))

variable (m : (ℓ : Loc nD τ sig) → Buf (Elt Ideal) ℓ) (ρ : Dev nD → PrngReg)

/-- The launch's data: the arrays as the host left them; each operand's block in place, the result's the attention. -/
def valDats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => BLK (m ((c : Thread nD τ).loc main_arg1)) (m ((c : Thread nD τ).loc main_arg2)) (m ((c : Thread nD τ).loc main_arg3)) t
  Φ _ := Pipeline.ΦA spec0 c
  q _ := fullShare
  owed _ := 0

theorem valDats_A (c : Dev nD) (w : Fin cfg0.W) : (valDats m 0 c).A w = V m c (Pipeline.arrRef spec0 w) := by
  dsimp only [valDats]

section Point
variable (c : Dev nD) (t : Fin cfg0.N)

theorem bnd_ne (h0 : B0 (m ((c : Thread nD τ).loc main_arg0)) ≠ ⊥) (arg : Memref sig .tc .smem S1 .f32) (f : BufTy.Contents (Elt Ideal) arg.view.ty)
    (h : arg.view.read (Elt Ideal) f = iblk m c 0 t) : bnd (F := Ideal) arg f ≠ (⊥ : EReal) := by
  have e : bnd (F := Ideal) arg f = m ((c : Thread nD τ).loc main_arg0) (ix1 0) := by
    rw [bnd, View.readAt_apply, h, eq_ix1 (LoadRect.idx _ _)]
    exact blk0_at m c t _
  rw [e]; exact h0

theorem q_at (hQ : ∀ i, IsR (m ((c : Thread nD τ).loc main_arg1) i)) (arg : Memref sig .tc .vmem S2048x256 .f32) (f : BufTy.Contents (Elt Ideal) arg.view.ty)
    (h : arg.view.read (Elt Ideal) f = iblk m c 1 t) (p : Fin 2048) (l : Fin 256) :
    arg.view.read (Elt Ideal) f (ix2 p l) = (qT (m ((c : Thread nD τ).loc main_arg1)) t p l : EReal) := by
  rw [h]
  refine (blk1_at m c t p l).trans (toReal_coe ?_).symm
  rw [HQ_at]; exact hQ _

theorem k_at (hK : ∀ i, IsR (m ((c : Thread nD τ).loc main_arg2) i)) (arg : Memref sig .tc .vmem S1x4096x128 .bf16) (f : BufTy.Contents (Elt Ideal) arg.view.ty)
    (h : arg.view.read (Elt Ideal) f = iblk m c 2 t) (s : Fin 4096) (l : Fin 128) :
    arg.view.read (Elt Ideal) f (ix3 0 s l) = (kT (m ((c : Thread nD τ).loc main_arg2)) t s ⟨l.val % 64, by omega⟩ : EReal) := by
  have ht := lt16 t
  rw [h]
  refine ((blk2_at m c t s l).trans (HK_at _ _ _ _)).trans ?_
  rw [kT, toReal_coe (hK _)]
  exact congrArg (m ((c : Thread nD τ).loc main_arg2)) (ix4_eq (by dsimp only; omega) (by dsimp only; omega) rfl rfl)

theorem v_at (arg : Memref sig .tc .vmem S1x8x128x512 .bf16) (f : BufTy.Contents (Elt Ideal) arg.view.ty)
    (h : arg.view.read (Elt Ideal) f = iblk m c 3 t) (s : Fin 4096) (w : Fin 64) :
    arg.view.read (Elt Ideal) f (ix4 0 ⟨s.val / 512, by omega⟩ ⟨w.val, by omega⟩ ⟨s.val % 512, by omega⟩) = vT (m ((c : Thread nD τ).loc main_arg3)) t s w := by
  have ht := lt16 t
  rw [h]
  refine ((blk3_at m c t _ _ _).trans (HV_at _ _ _ w _)).trans ?_
  exact congrArg (m ((c : Thread nD τ).loc main_arg3)) (ix4_eq (by dsimp only; omega) (by dsimp only; omega) rfl rfl)

theorem one_at (arg : Memref sig .tc .vmem S1x8x128x512 .bf16) (f : BufTy.Contents (Elt Ideal) arg.view.ty)
    (h : arg.view.read (Elt Ideal) f = iblk m c 3 t) (s : Fin 4096) :
    arg.view.read (Elt Ideal) f (ix4 0 ⟨s.val / 512, by omega⟩ 64 ⟨s.val % 512, by omega⟩) = 1 := by
  rw [h]
  exact (blk3_at m c t _ _ _).trans (HV_one _ _ _ _)

theorem blk_read (arg : Memref sig .tc .vmem S2048x256 .bf16) (g : BufTy.Contents (Elt Ideal) arg.view.ty)
    (h : ∀ p l, arg.view.read (Elt Ideal) g (ix2 p l) = Soft.att (kT (m ((c : Thread nD τ).loc main_arg2)) t) (fun s => vT (m ((c : Thread nD τ).loc main_arg3)) t s ⟨l.val % 64, by omega⟩)
      (fun d => qT (m ((c : Thread nD τ).loc main_arg1)) t p ⟨64 * (l.val / 64) + d.val, by omega⟩)) :
    arg.view.read (Elt Ideal) g = BLK (m ((c : Thread nD τ).loc main_arg1)) (m ((c : Thread nD τ).loc main_arg2)) (m ((c : Thread nD τ).loc main_arg3)) t := by
  funext y
  rw [eq_ix2 y]
  exact (h _ _).trans (att_blk _ _ _ _ _ _)

end Point

/-- The body at a grid point: its operands' blocks in; they and the result's block out. -/
theorem val_point (c : Dev nD) (t : Fin cfg0.N) (h0 : B0 (m ((c : Thread nD τ).loc main_arg0)) ≠ ⊥)
    (hQ : ∀ i, IsR (m ((c : Thread nD τ).loc main_arg1) i)) (hK : ∀ i, IsR (m ((c : Thread nD τ).loc main_arg2) i)) :
    (iprop((valDats m 0 c).Φ t.castSucc ∗ (valDats m 0 c).owesAt () t.castSucc
      ∗ (∃ d, owns (c : Thread nD τ) (st0_0 t) fullShare ((valDats m 0 c).before 0 t d))
      ∗ (∃ d, owns (c : Thread nD τ) (st0_1 t) fullShare ((valDats m 0 c).before 1 t d))
      ∗ (∃ d, owns (c : Thread nD τ) (st0_2 t) fullShare ((valDats m 0 c).before 2 t d))
      ∗ (∃ d, owns (c : Thread nD τ) (st0_3 t) fullShare ((valDats m 0 c).before 3 t d))
      ∗ (∃ d, owns (c : Thread nD τ) (st0_4 t) fullShare ((valDats m 0 c).before 4 t d))) : sProp 𝕄G)
    ⊢ wp frame (wpE (defs₀ (F := Ideal)) Variants.none (c : Thread nD τ) none) Set.univ (bodyAt0 t)
      (fun _ => iprop((valDats m 0 c).Φ t.succ ∗ (valDats m 0 c).owesAt () t.succ
        ∗ owns (c : Thread nD τ) (st0_0 t) fullShare ((valDats m 0 c).after 0 t)
        ∗ owns (c : Thread nD τ) (st0_1 t) fullShare ((valDats m 0 c).after 1 t)
        ∗ owns (c : Thread nD τ) (st0_2 t) fullShare ((valDats m 0 c).after 2 t)
        ∗ owns (c : Thread nD τ) (st0_3 t) fullShare ((valDats m 0 c).after 3 t)
        ∗ owns (c : Thread nD τ) (st0_4 t) fullShare ((valDats m 0 c).after 4 t))) := by
  rw [show (valDats m 0 c).owesAt () t.succ = (valDats m 0 c).owesAt () t.castSucc from rfl,
    show (valDats m 0 c).Φ t.succ = Pipeline.ΦA spec0 c from rfl,
    show (valDats m 0 c).Φ t.castSucc = Pipeline.ΦA spec0 c from rfl]
  simp only [before0_0_of m (valDats m 0 c) (valDats_A m c 0) (fun _ => rfl) t,
    before0_1_of m (valDats m 0 c) (valDats_A m c 1) (fun _ => rfl) t,
    before0_2_of m (valDats m 0 c) (valDats_A m c 2) (fun _ => rfl) t,
    before0_3_of m (valDats m 0 c) (valDats_A m c 3) (fun _ => rfl) t]
  rw [show (valDats m 0 c).after 0 t = iblk m c 0 t from rfl, show (valDats m 0 c).after 1 t = iblk m c 1 t from rfl,
    show (valDats m 0 c).after 2 t = iblk m c 2 t from rfl, show (valDats m 0 c).after 3 t = iblk m c 3 t from rfl,
    show (valDats m 0 c).after 4 t = BLK (m ((c : Thread nD τ).loc main_arg1)) (m ((c : Thread nD τ).loc main_arg2)) (m ((c : Thread nD τ).loc main_arg3)) t from rfl]
  unfold Pipeline.ΦA
  rw [scopedRest0_eq]
  unfold owns
  iintro ⟨⟨⟨⟨%g8, H8⟩, ⟨%g9, H9⟩, ⟨%g10, H10⟩, ⟨%g11, H11⟩⟩, Hg⟩, Ho, ⟨%d0, %f3, %h3, H3⟩, ⟨%d1, %f4, %h4, H4⟩, ⟨%d2, %f5, %h5, H5⟩, ⟨%d3, %f6, %h6, H6⟩, ⟨%d4, %f7, %h7, H7⟩⟩
  iapply (wp_wand_r Idealize.ShloMosaic.frame (wpE (defs₀ (F := Ideal)) Variants.none (c : Thread nD τ) none) Set.univ)
  isplitl [H3 H4 H5 H6 H7 H8 H9 H10 H11]
  · iapply (body_val c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) f3 f4 f5 f6 f7 g8 g9 g10 g11
      (qT (m ((c : Thread nD τ).loc main_arg1)) t) (kT (m ((c : Thread nD τ).loc main_arg2)) t) (vT (m ((c : Thread nD τ).loc main_arg3)) t)
      (bnd_ne m c t h0 _ f3 h3) (q_at m c t hQ _ f4 h4) (k_at m c t hK _ f5 h5) (v_at m c t _ f6 h6) (one_at m c t _ f6 h6))
    isplitl [H3 H4 H5 H6]
    · isplitl [H3]; · iexact H3
      isplitl [H4]; · iexact H4
      isplitl [H5]; · iexact H5
      iexact H6
    isplitl [H7]; · iexact H7
    isplitl [H8]; · iapply (whole_in c cc0_scratch0 g8); iexact H8
    isplitl [H9]; · iapply (whole_in c cc0_scratch1 g9); iexact H9
    isplitl [H10]; · iapply (whole_in c cc0_scratch2 g10); iexact H10
    iapply (whole_in c cc0_scratch3 g11); iexact H11
  iintro %_ ⟨⟨H3, H4, H5, H6⟩, ⟨%e7, %h, H7⟩, ⟨%e8, H8⟩, ⟨%e9, H9⟩, ⟨%e10, H10⟩, ⟨%e11, H11⟩⟩
  isplitl [H8 H9 H10 H11 Hg]
  · isplitl [H8 H9 H10 H11]
    · isplitl [H8]; · iexists e8; iapply (whole_out c cc0_scratch0 e8); iexact H8
      isplitl [H9]; · iexists e9; iapply (whole_out c cc0_scratch1 e9); iexact H9
      isplitl [H10]; · iexists e10; iapply (whole_out c cc0_scratch2 e10); iexact H10
      iexists e11; iapply (whole_out c cc0_scratch3 e11); iexact H11
    iexact Hg
  isplitl [Ho]; · iexact Ho
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  iexists e7; isplitr; · ipureintro; exact blk_read m c t _ e7 h
  iexact H7

/-- What the precondition says of a memory. -/
def Real (c : Dev nD) : Prop := B0 (m ((c : Thread nD τ).loc main_arg0)) ≠ ⊥
  ∧ (∀ i, IsR (m ((c : Thread nD τ).loc main_arg1) i)) ∧ ∀ i, IsR (m ((c : Thread nD τ).loc main_arg2) i)

theorem val_body (c : Dev nD) (h : Real m c) : BodyObligationLoose (valDats m 0 c) (defs₀ (F := Ideal)) Variants.none () Set.univ := fun t => by
  rw [bigSep_W0, bigSep_W0, row]
  exact triple_restated (val_point m c t h.1 h.2.1 h.2.2) rfl .rfl fun _ => .rfl

set_option backward.isDefEq.respectTransparency.types false in
theorem val_frame (h : ∀ c, Real m c) : θ_run defs (onTc (τ := τ) (main (F := Ideal))) (s₀ m ρ) (Pipeline.FramePost cfgs (valDats m) 0 (V m)) :=
  Pipeline.θ_run_frame cfgs (valDats m) (0 : Fin 1) launch0 defs₀ Variants.none m ρ main
    (hbody := fun c => val_body m c (h c)) (hshare := fun c => (valDats m 0 c).share_full fun _ => rfl)
    (howed := fun _ _ => rfl) (V := V m) (hmain := hmain m Variants.none) (hA := valDats_A m)
    (hΦ := fun _ _ => rfl)

/-- The result. -/
def RES (Q : FVec Ideal S4x4096x8x64 .f32) (K V : FVec Ideal S4x4096x2x64 .f32) : FVec Ideal S16384x512 .bf16 := fun i => ATT Q K V (i 0) (i 1)

/-- Where the result's block at a grid point lies. -/
theorem emb4 (t : Fin cfg0.N) (y : S2048x256.Idx) : ((cfg0.win 4).blk t).view.emb y
    = ix2 ⟨(t.val / 4 * 2 + t.val % 2) * 2048 + (y 0).val, by have := lt16 t; have : (y 0).val < 2048 := (y 0).isLt; omega⟩
      ⟨t.val / 2 % 2 * 256 + (y 1).val, by have : (y 1).val < 256 := (y 1).isLt; omega⟩ := by
  blk_ext [idx t]

theorem BLK_eq (Q : FVec Ideal S4x4096x8x64 .f32) (K V : FVec Ideal S4x4096x2x64 .f32) (t : Fin cfg0.N) (y : S2048x256.Idx) :
    BLK Q K V t y = RES Q K V (((cfg0.win 4).blk t).view.emb y) := by
  refine Eq.trans ?_ (congrArg (RES Q K V) (emb4 t y)).symm
  rfl

/-- The result's array from its blocks. -/
theorem arr4 (c : Dev nD) : (valDats m 0 c).arrAt 4 cfg0.N = RES (m ((c : Thread nD τ).loc main_arg1)) (m ((c : Thread nD τ).loc main_arg2)) (m ((c : Thread nD τ).loc main_arg3)) :=
  (valDats m 0 c).arrAt_eq_of_covers 4 _ (by decide +kernel) fun t _ y => BLK_eq _ _ _ t y

/-- The run: the result is the attention, the arguments are as they were. -/
theorem val_run (h : ∀ c, Real m c) : θ_run defs (onTc (τ := τ) (main (F := Ideal))) ⟨m, fun _ => 0, ρ⟩ (fun r => ∀ c : Dev nD,
      r.2.mem ((c.tc : Thread nD τ).loc main_v10) = RES (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (arr4 m c),
      ((h c).1 0).trans (((valDats m 0 c).arrAt_in 0 rfl _).trans ((valDats_A m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (val_frame m ρ h)

end Cert.KernelIdeal.Run
end
-- ==== Proof.Finite.lean ====
/-
  What the precondition says over the reals: the bound is above −∞ and every query and key entry is a real number.
-/
module

public import proofs.«01_k».proof.Defs
public import proofs.«01_k».proof.Proof.Value
public import proofs.«01_k».proof.Proof.Gen.Pre_finite
public import Idealize.ShloMosaic.Lib.ReduceAll

@[expose] public section
set_option maxRecDepth 16384
set_option maxHeartbeats 400000
noncomputable section
namespace Cert.Finite
open Idealize.ShloMosaic Idealize.ShloMosaic.TcCoe
open Cert.KernelIdeal.Val (IsR)

instance : Subsingleton Cert.Pre_finite.S_.Idx := ⟨fun _ _ => funext fun a => a.elim0⟩

theorem inf : Ideal.ofBits .f32 0x7F800000#32 = (⊤ : EReal) := by simp [Ideal.ofBits, Ideal.ieee]

/-- An element whose magnitude is below +∞ is a real number. -/
theorem isR_of_abs {s : Shape} {bd : Fin 0 → Fin s.rank} (hb) (x : FVec Ideal s .f32) (i : s.Idx)
    (h : cmpf .olt (Host.absf x) (broadcastInDim s bd hb (constant Cert.Pre_finite.S_ .f32 0x7F800000#32)) i = 1#1) : IsR (x i) := by
  have h' : Ideal.cmp .olt (max (x i : EReal) (-(x i : EReal))) (Ideal.ofBits .f32 0x7F800000#32) = 1#1 := h
  rw [inf] at h'
  have lt : max (x i : EReal) (-(x i : EReal)) < ⊤ := by
    by_contra hn
    simp [Ideal.cmp, hn] at h'
  refine ⟨EReal.toReal (x i), (EReal.coe_toReal (fun e => ?_) fun e => ?_).symm⟩
  · rw [e] at lt; simp at lt
  · rw [e] at lt; simp at lt

/-- An element above −∞ is not −∞. -/
theorem ne_bot {s : Shape} {bd : Fin 0 → Fin s.rank} (hb) (x : FVec Ideal s .f32) (i : s.Idx)
    (h : cmpf .ogt x (broadcastInDim s bd hb (Host.negf (constant Cert.Pre_finite.S_ .f32 0x7F800000#32))) i = 1#1) : (x i : EReal) ≠ ⊥ := by
  have h' : Ideal.cmp .ogt (x i : EReal) (-(Ideal.ofBits .f32 0x7F800000#32)) = 1#1 := h
  rw [inf] at h'
  intro e
  rw [e] at h'
  simp [Ideal.cmp] at h'

theorem of_pre (m : (ℓ : Loc Cert.KernelIdeal.nD Cert.KernelIdeal.τ Cert.KernelIdeal.sig) → Buf (Elt Ideal) ℓ)
    (h : @Cert.Pre_KernelIdeal_finite Cert.Pre_finite.Gen.facts m) (c : Dev Cert.KernelIdeal.nD) : Cert.KernelIdeal.Run.Real m c := by
  have e := congrFun (h c) (Shape.Idx.first Cert.Pre_finite.Gen.facts.h_S_)
  unfold Cert.Pre_finite.fn at e
  obtain ⟨e1, e2⟩ := IntOp.andi_eq_one.1 e
  obtain ⟨e0, e1⟩ := IntOp.andi_eq_one.1 e1
  exact ⟨ne_bot _ _ _ (Host.reduce_andi_all _ _ _ _ _ e0 (ix1 0)), fun i => isR_of_abs _ _ _ (Host.reduce_andi_all _ _ _ _ _ e1 i),
    fun i => isR_of_abs _ _ _ (Host.reduce_andi_all _ _ _ _ _ e2 i)⟩

end Cert.Finite
end
-- ==== Proof.PostMath.lean ====
/-
  The rest of the layer after the attention, as mathematics on one row.
-/
module

public import Idealize.ShloMosaic.Lib.Pipeline.ValueKit
public import Idealize.ShloMosaic.Lib.Claim

@[expose] public section
set_option maxRecDepth 16384
set_option maxHeartbeats 400000
noncomputable section
namespace Cert.Post
open Idealize.ShloMosaic Idealize.ShloMosaic.TcCoe Idealize.ShloMosaic.Tactic

/-- A row times a matrix. -/
def dot {n k : ℕ} (a : Fin n → EReal) (W : Fin n → Fin k → EReal) (j : Fin k) : EReal := ∑ i, a i * W i j

/-- A row over the root of its mean square, scaled by a gain. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The gated attention branch beside the other branch. -/
def merged (a : Fin 512 → EReal) (ga mb : Fin 1024 → EReal) (W : Fin 512 → Fin 1024 → EReal) (j : Fin 1024) : EReal :=
  ga j * dot a W j + mb j

/-- A residual. -/
def plus (x z : Fin 1024 → EReal) (W : Fin 1024 → Fin 1024 → EReal) (j : Fin 1024) : EReal := x j + dot z W j

/-- A hidden unit of the feed-forward layer, of its two columns. -/
def unit (h u v : Fin 1024 → EReal) : EReal :=
  (∑ k, h k * u k) * Ideal.logistic (∑ k, h k * u k) * (∑ k, h k * v k)

/-- The residual of the feed-forward layer, halved. -/
def half (x : Fin 1024 → EReal) (z : Fin 2816 → EReal) (W : Fin 2816 → Fin 1024 → EReal) (j : Fin 1024) : EReal :=
  x j + Ideal.ofBits .f32 0x3F000000#32 * dot z W j

/-- The hidden row. -/
def units (h : Fin 1024 → EReal) (W : Fin 1024 → Fin 5632 → EReal) (l : Fin 2816) : EReal :=
  unit h (fun k => W k ⟨l.val, by omega⟩) (fun k => W k ⟨2816 + l.val, by omega⟩)

/-- The row after the feed-forward layer. -/
def ffn (x g : Fin 1024 → EReal) (Wu : Fin 1024 → Fin 5632 → EReal) (Wd : Fin 2816 → Fin 1024 → EReal) : Fin 1024 → EReal :=
  half x (units (rms x g) Wu) Wd

/-- The gated residual of the token's own embedding. -/
def gated (x h : Fin 1024 → EReal) (p : Fin 256 → EReal) (Wg : Fin 1024 → Fin 1024 → EReal) (Wp : Fin 256 → Fin 1024 → EReal) (j : Fin 1024) : EReal :=
  x j + Ideal.logistic (dot h Wg j) * dot p Wp j

/-- The row of the result, of the rows of the operands and of the weights. -/
def out (a : Fin 512 → EReal) (ga mb x1 : Fin 1024 → EReal) (p : Fin 256 → EReal) (Wa : Fin 512 → Fin 1024 → EReal) (Wo : Fin 1024 → Fin 1024 → EReal)
    (g2 : Fin 1024 → EReal) (Wu : Fin 1024 → Fin 5632 → EReal) (Wd : Fin 2816 → Fin 1024 → EReal) (gp : Fin 1024 → EReal)
    (Wg : Fin 1024 → Fin 1024 → EReal) (Wp : Fin 256 → Fin 1024 → EReal) (gf : Fin 1024 → EReal) : Fin 1024 → EReal :=
  rms (gated (ffn (plus x1 (merged a ga mb Wa) Wo) g2 Wu Wd) (rms (ffn (plus x1 (merged a ga mb Wa) Wo) g2 Wu Wd) gp) p Wg Wp) gf

end Cert.Post
end
-- ==== Proof.Post.lean ====
/-
  The body's arithmetic as the mathematics of the rows.
-/
module

public import proofs.«01_k».proof.Proof.Gen.Kernel2Ideal.Skeleton
public import proofs.«01_k».proof.Proof.PostMath
public import Idealize.ShloMosaic.Lib.Pipeline.ValueKit
public import Idealize.ShloMosaic.Lib.Claim

@[expose] public section
set_option maxRecDepth 16384
set_option maxHeartbeats 400000
noncomputable section
namespace Cert.Kernel2Ideal.Run
open Cert.Kernel2Ideal Cert.Kernel2Ideal.Gen
open Idealize.ShloMosaic Idealize.ShloMosaic.TcCoe Idealize.ShloMosaic.Tactic
open Cert.Post

theorem pay2_at (p : FVec Ideal S256x256 .f32) (w : FVec Ideal S256x1024 .bf16) (i : Fin 256) (j : Fin 1024) :
    k0_pay2 (F := Ideal) p w (ix2 i j) = dot (fun k => p (ix2 i k)) (fun k j => w (ix2 k j)) j := by
  pointwise [k0_pay2, dot]

theorem pay4_at (a : FVec Ideal S256x512 .bf16) (w : FVec Ideal S512x1024 .bf16) (ga mb : FVec Ideal S256x1024 .bf16) (i : Fin 256) (j : Fin 1024) :
    k0_pay4 (F := Ideal) a w ga mb (ix2 i j) = merged (fun k => a (ix2 i k)) (fun k => ga (ix2 i k)) (fun k => mb (ix2 i k)) (fun k j => w (ix2 k j)) j := by
  pointwise [k0_pay4, merged, dot]

theorem pay6_at (z : FVec Ideal S256x1024 .bf16) (x : FVec Ideal S256x1024 .f32) (w : FVec Ideal S1024x1024 .bf16) (i : Fin 256) (j : Fin 1024) :
    k0_pay6 (F := Ideal) z x w (ix2 i j) = plus (fun k => x (ix2 i k)) (fun k => z (ix2 i k)) (fun k j => w (ix2 k j)) j := by
  pointwise [k0_pay6, plus, dot]

theorem pay1_at (q x : FVec Ideal S256x1024 .f32) (g1 : FVec Ideal S1x1024 .f32) (w : FVec Ideal S1024x1024 .bf16) (g : FVec Ideal S1x1024 .f32) (i : Fin 256) (j : Fin 1024) :
    k0_pay1 (F := Ideal) (k0_pay45 q x g1 w) (k0_pay46 g) (k0_pay47 q x g1 w) (ix2 i j)
      = rms (fun k => k0_pay45 (F := Ideal) q x g1 w (ix2 i k)) (fun k => g (ix2 0 k)) j := by
  pointwise [k0_pay1, k0_pay46, k0_pay47, rms]

theorem pay45_at (q x : FVec Ideal S256x1024 .f32) (g1 : FVec Ideal S1x1024 .f32) (w : FVec Ideal S1024x1024 .bf16) (i : Fin 256) (j : Fin 1024) :
    k0_pay45 (F := Ideal) q x g1 w (ix2 i j)
      = x (ix2 i j) + Ideal.logistic (dot (rms (fun k => x (ix2 i k)) (fun k => g1 (ix2 0 k))) (fun k j => w (ix2 k j)) j) * q (ix2 i j) := by
  pointwise [k0_pay45, dot, rms]

theorem pay43_at (x : FVec Ideal S256x1024 .f32) (z : FVec Ideal S256x2816 .bf16) (wd : FVec Ideal S2816x1024 .bf16) (g1 : FVec Ideal S1x1024 .f32) (w : FVec Ideal S1024x1024 .bf16) (i : Fin 256) (j : Fin 1024) :
    k0_pay43 (F := Ideal) x z wd g1 w (ix2 i j)
      = Ideal.logistic (dot (rms (fun k => k0_pay41 (F := Ideal) x z wd (ix2 i k)) (fun k => g1 (ix2 0 k))) (fun k j => w (ix2 k j)) j) := by
  pointwise [k0_pay43, dot, rms]

theorem pay44_at (q x s : FVec Ideal S256x1024 .f32) (g : FVec Ideal S1x1024 .f32) (i : Fin 256) (j : Fin 1024) :
    k0_pay44 (F := Ideal) q x s g (ix2 i j) = rms (fun k => x (ix2 i k) + s (ix2 i k) * q (ix2 i k)) (fun k => g (ix2 0 k)) j := by
  pointwise [k0_pay44, rms]

theorem pay8_at (z : FVec Ideal S256x1024 .bf16) (x : FVec Ideal S256x1024 .f32) (w : FVec Ideal S1024x1024 .bf16) (g : FVec Ideal S1x1024 .f32) (i : Fin 256) (j : Fin 1024) :
    k0_pay8 (F := Ideal) z x w g (ix2 i j) = rms (fun k => k0_pay6 (F := Ideal) z x w (ix2 i k)) (fun k => g (ix2 0 k)) j := by
  pointwise [k0_pay8, rms]

theorem pay11_at (h : FVec Ideal S256x1024 .bf16) (u v : FVec Ideal S1024x256 .bf16) (i l : Fin 256) :
    k0_pay11 (F := Ideal) h u v (ix2 i l) = unit (fun k => h (ix2 i k)) (fun k => u (ix2 k l)) (fun k => v (ix2 k l)) := by
  pointwise [k0_pay11, Cert.Post.unit]

theorem pay41_at (x : FVec Ideal S256x1024 .f32) (z : FVec Ideal S256x2816 .bf16) (w : FVec Ideal S2816x1024 .bf16) (i : Fin 256) (j : Fin 1024) :
    k0_pay41 (F := Ideal) x z w (ix2 i j) = half (fun k => x (ix2 i k)) (fun k => z (ix2 i k)) (fun k j => w (ix2 k j)) j := by
  pointwise [k0_pay41, half, dot]

/-- The first half of a block: its rows are the rows of the result. -/
theorem lower (a : FVec Ideal S256x512 .bf16) (ga mb : FVec Ideal S256x1024 .bf16) (x1 : FVec Ideal S256x1024 .f32) (p : FVec Ideal S256x256 .f32)
    (wa : FVec Ideal S512x1024 .bf16) (wo : FVec Ideal S1024x1024 .bf16) (g2 : FVec Ideal S1x1024 .f32) (wu : FVec Ideal S1024x5632 .bf16)
    (wd : FVec Ideal S2816x1024 .bf16) (gp : FVec Ideal S1x1024 .f32) (wg : FVec Ideal S1024x1024 .bf16) (wp : FVec Ideal S256x1024 .bf16) (gf : FVec Ideal S1x1024 .f32)
    (z : FVec Ideal S256x2816 .bf16) (i : Fin 256) (j : Fin 1024)
    (hz : ∀ l, z (ix2 i l) = units (fun k => k0_pay8 (F := Ideal) (k0_pay4 a wa ga mb) x1 wo g2 (ix2 i k)) (fun k l => wu (ix2 k l)) l) :
    k0_pay44 (F := Ideal) (k0_pay2 p wp) (k0_pay41 (k0_pay6 (k0_pay4 a wa ga mb) x1 wo) z wd) (k0_pay43 (k0_pay6 (k0_pay4 a wa ga mb) x1 wo) z wd gp wg) gf (ix2 i j)
      = out (fun k => a (ix2 i k)) (fun k => ga (ix2 i k)) (fun k => mb (ix2 i k)) (fun k => x1 (ix2 i k)) (fun k => p (ix2 i k)) (fun k j => wa (ix2 k j)) (fun k j => wo (ix2 k j))
        (fun k => g2 (ix2 0 k)) (fun k j => wu (ix2 k j)) (fun k j => wd (ix2 k j)) (fun k => gp (ix2 0 k)) (fun k j => wg (ix2 k j)) (fun k j => wp (ix2 k j)) (fun k => gf (ix2 0 k)) j := by
  simp only [pay44_at, pay43_at, pay41_at, pay2_at, hz, pay8_at, pay6_at, pay4_at]
  rfl

/-- The second half: its arithmetic is the first half's. -/
theorem upper (a : FVec Ideal S256x512 .bf16) (ga mb : FVec Ideal S256x1024 .bf16) (x1 : FVec Ideal S256x1024 .f32) (p : FVec Ideal S256x256 .f32)
    (wa : FVec Ideal S512x1024 .bf16) (wo : FVec Ideal S1024x1024 .bf16) (g2 : FVec Ideal S1x1024 .f32) (wu : FVec Ideal S1024x5632 .bf16)
    (wd : FVec Ideal S2816x1024 .bf16) (gp : FVec Ideal S1x1024 .f32) (wg : FVec Ideal S1024x1024 .bf16) (wp : FVec Ideal S256x1024 .bf16) (gf : FVec Ideal S1x1024 .f32)
    (z : FVec Ideal S256x2816 .bf16) (i : Fin 256) (j : Fin 1024)
    (hz : ∀ l, z (ix2 i l) = units (fun k => k0_pay10 (F := Ideal) (k0_pay9 (k0_pay5 a wa ga mb) x1 wo g2) (ix2 i k)) (fun k l => wu (ix2 k l)) l) :
    k0_pay1 (F := Ideal) (k0_pay45 (k0_pay3 p wp) (k0_pay42 (k0_pay7 (k0_pay5 a wa ga mb) x1 wo) z wd) gp wg) (k0_pay46 gf)
        (k0_pay47 (k0_pay3 p wp) (k0_pay42 (k0_pay7 (k0_pay5 a wa ga mb) x1 wo) z wd) gp wg) (ix2 i j)
      = out (fun k => a (ix2 i k)) (fun k => ga (ix2 i k)) (fun k => mb (ix2 i k)) (fun k => x1 (ix2 i k)) (fun k => p (ix2 i k)) (fun k j => wa (ix2 k j)) (fun k j => wo (ix2 k j))
        (fun k => g2 (ix2 0 k)) (fun k j => wu (ix2 k j)) (fun k j => wd (ix2 k j)) (fun k => gp (ix2 0 k)) (fun k j => wg (ix2 k j)) (fun k j => wp (ix2 k j)) (fun k => gf (ix2 0 k)) j := by
  have h4 : k0_pay5 (F := Ideal) a wa ga mb = k0_pay4 (F := Ideal) a wa ga mb := rfl
  have h6 : k0_pay7 (F := Ideal) (k0_pay4 (F := Ideal) a wa ga mb) x1 wo = k0_pay6 (k0_pay4 (F := Ideal) a wa ga mb) x1 wo := rfl
  have h8 : k0_pay10 (F := Ideal) (k0_pay9 (k0_pay4 (F := Ideal) a wa ga mb) x1 wo g2) = k0_pay8 (k0_pay4 (F := Ideal) a wa ga mb) x1 wo g2 := rfl
  have h2 : k0_pay3 (F := Ideal) p wp = k0_pay2 p wp := rfl
  have h41 (x : FVec Ideal S256x1024 .f32) : k0_pay42 (F := Ideal) x z wd = k0_pay41 x z wd := rfl
  rw [h4, h8] at hz
  rw [h4, h6, h2, h41]
  simp only [pay1_at, pay45_at, pay41_at, pay2_at, hz, pay8_at, pay6_at, pay4_at]
  rfl

end Cert.Kernel2Ideal.Run
end
-- ==== Proof.PostBody.lean ====
/-
  The block of the result that the body leaves, element by element: the two halves of the rows, and the hidden units by
  tiles of columns.
-/
module

public import proofs.«01_k».proof.Proof.Gen.Kernel2Ideal.Value
public import proofs.«01_k».proof.Proof.Post
public import Idealize.ShloMosaic.Lib.Pipeline.ValueKit
public import Idealize.ShloMosaic.Lib.Claim

@[expose] public section
set_option maxRecDepth 16384
set_option maxHeartbeats 1000000
noncomputable section
namespace Cert.Kernel2Ideal.Run
open Cert.Kernel2Ideal Cert.Kernel2Ideal.Gen
open Idealize.ShloMosaic Idealize.ShloMosaic.TcCoe Idealize.ShloMosaic.Tactic
open Idealize.SL Idealize.SL.Sem
open Cert.Post
open Idealize.ShloMosaic.Pipeline (Dat)

variable (m : (ℓ : Loc nD τ sig) → Buf (Elt Ideal) ℓ) (c : Dev nD)

/-- A load through a rectangle of rows and columns, at an index. -/
theorem ld_at {n k n' k' o o' : ℕ} {e : EltTy} (X : (⟨2, ![n, k]⟩ : Shape).Idx → Elt Ideal e) (inb) (i : Fin n') (l : Fin k') (p : Fin n) (q : Fin k)
    (hp : p.val = o + i.val) (hq : q.val = o' + l.val) :
    View.ld (Val := Elt Ideal) (S := ⟨2, ![n, k]⟩) X (Rect.unit ![o, o'] ![n', k'] inb) (ix2 i l) = X (ix2 p q) :=
  View.ld_unit_apply_of X _ _ inb _ _ (fun a => by match a with | ⟨0, _⟩ => exact hp | ⟨1, _⟩ => exact hq)

theorem no_hi {a b : ℕ} (h : 256 + a = b) (hb : b < 256) : False := by omega
theorem no_lo {a b : ℕ} (h : 0 + a = 256 + b) (ha : a < 256) : False := by omega

/-- A hidden unit computed from a tile of the weights' columns and the tile 2816 columns further on. -/
theorem tile (h : FVec Ideal S256x1024 .bf16) (W : FVec Ideal S1024x5632 .bf16) (o o' : ℕ) (inb inb') (a b i : Fin 256) (l : Fin 2816)
    (hi : i.val = a.val) (hl : 0 + l.val = o + b.val) (ho : o' = 2816 + o) :
    k0_pay11 (F := Ideal) h (View.ld (Val := Elt Ideal) (S := S1024x5632) (e' := .bf16) W (Rect.unit ![0, o] ![1024, 256] inb))
      (View.ld (Val := Elt Ideal) (S := S1024x5632) (e' := .bf16) W (Rect.unit ![0, o'] ![1024, 256] inb')) (ix2 a b)
      = units (fun k => h (ix2 i k)) (fun k l => W (ix2 k l)) l := by
  obtain rfl : i = a := Fin.ext hi
  refine (pay11_at h _ _ i b).trans ?_
  unfold units
  congr 1
  · exact funext fun k => ld_at (n := 1024) (k := 5632) (e := .bf16) W inb k b k ⟨l.val, by omega⟩ (Nat.zero_add _).symm ((Nat.zero_add _).symm.trans hl)
  · exact funext fun k => ld_at (n := 1024) (k := 5632) (e := .bf16) W inb' k b k ⟨2816 + l.val, by omega⟩ (Nat.zero_add _).symm (show 2816 + l.val = o' + b.val by omega)

/-- What the body leaves at an element of the result's block, in the operands' blocks. -/
theorem body_at (t : Fin cfg0.N) (p : Fin 512) (j : Fin 1024) : (dats m 0 c).after 14 t (ix2 p j)
    = out (fun k => iblk m c 0 t (ix2 p k)) (fun k => iblk m c 1 t (ix2 p k)) (fun k => iblk m c 2 t (ix2 p k)) (fun k => iblk m c 3 t (ix2 p k)) (fun k => iblk m c 4 t (ix2 p k))
      (fun k j => iblk m c 5 t (ix2 k j)) (fun k j => iblk m c 6 t (ix2 k j)) (fun k => iblk m c 7 t (ix2 0 k)) (fun k j => iblk m c 8 t (ix2 k j)) (fun k j => iblk m c 9 t (ix2 k j))
      (fun k => iblk m c 10 t (ix2 0 k)) (fun k j => iblk m c 11 t (ix2 k j)) (fun k j => iblk m c 12 t (ix2 k j)) (fun k => iblk m c 13 t (ix2 0 k)) j := by
  rw [after0_14]
  unfold outsAt0
  frame_out
  canon_tiles x h
  · rw [eq_ix2 x]
    have hp : p.val = 256 + (x 0).val := h0
    obtain rfl : x 1 = j := Fin.ext h1.symm
    have hx : ∀ {k : ℕ} {e : EltTy} (X : (⟨2, ![512, k]⟩ : Shape).Idx → Elt Ideal e) (inb) (l : Fin k),
        View.ld (Val := Elt Ideal) (S := ⟨2, ![512, k]⟩) X (Rect.unit ![256, 0] ![256, k] inb) (ix2 (x 0) l) = X (ix2 p l) :=
      fun X inb l => ld_at X inb (x 0) l p l (by omega) (Nat.zero_add _).symm
    refine (upper _ _ _ _ _ _ _ (iblk m c 7 t) (iblk m c 8 t) _ _ _ _ _ _ (x 0) (x 1) fun l => ?_).trans ?_
    · generalize k0_pay10 (F := Ideal) (k0_pay9 (k0_pay5 _ _ _ _) _ _ _) = H
      rw [View.readCov_eq_canon']
      canon_tiles z h
      all_goals
        rw [Rect.idx_unit_val] at h0 h1
        replace h0 : 256 + (x 0).val = _ := h0
        replace h1 : 0 + l.val = _ := h1
        first
        | exact (no_hi h0 z0_lt).elim
        | (rw [eq_ix2 z]; exact tile H (iblk m c 8 t) _ _ _ _ (z 0) (z 1) (x 0) l (Nat.add_left_cancel h0) h1 rfl)
        | (rw [eq_ix2 z]; exact tile H (iblk m c 8 t) _ _ _ _ (z 0) (z 1) (x 0) l (Nat.add_left_cancel h0) (h1.trans (Nat.zero_add _).symm) rfl)
    · congr 1 <;> exact funext fun k => hx _ _ k
  · rw [eq_ix2 x]
    have hp : p.val = (x 0).val := h0
    obtain rfl : x 1 = j := Fin.ext h1.symm
    have hx : ∀ {k : ℕ} {e : EltTy} (X : (⟨2, ![512, k]⟩ : Shape).Idx → Elt Ideal e) (inb) (l : Fin k),
        View.ld (Val := Elt Ideal) (S := ⟨2, ![512, k]⟩) X (Rect.unit ![0, 0] ![256, k] inb) (ix2 (x 0) l) = X (ix2 p l) :=
      fun X inb l => ld_at X inb (x 0) l p l (by omega) (Nat.zero_add _).symm
    refine (lower _ _ _ _ _ _ _ (iblk m c 7 t) (iblk m c 8 t) _ _ _ _ _ _ (x 0) (x 1) fun l => ?_).trans ?_
    · generalize k0_pay8 (F := Ideal) (k0_pay4 _ _ _ _) _ _ _ = H
      rw [View.readCov_eq_canon']
      canon_tiles z h
      all_goals
        rw [Rect.idx_unit_val] at h0 h1
        replace h0 : 0 + (x 0).val = _ := h0
        replace h1 : 0 + l.val = _ := h1
        first
        | exact (no_lo h0 x0_lt).elim
        | (rw [eq_ix2 z]; exact tile H (iblk m c 8 t) _ _ _ _ (z 0) (z 1) (x 0) l ((Nat.zero_add _).symm.trans h0) h1 rfl)
        | (rw [eq_ix2 z]; exact tile H (iblk m c 8 t) _ _ _ _ (z 0) (z 1) (x 0) l ((Nat.zero_add _).symm.trans h0) (h1.trans (Nat.zero_add _).symm) rfl)
    · congr 1 <;> exact funext fun k => hx _ _ k

end Cert.Kernel2Ideal.Run
end
-- ==== Proof.PostVal.lean ====
/-
  The exact run of the rest of the layer: every row of its result is the mathematics of that row.
-/
module

public import proofs.«01_k».proof.Proof.PostBody

@[expose] public section
set_option maxRecDepth 16384
set_option maxHeartbeats 800000
noncomputable section
namespace Cert.Kernel2Ideal.Run
open Cert.Kernel2Ideal Cert.Kernel2Ideal.Gen
open Idealize.ShloMosaic Idealize.ShloMosaic.TcCoe Idealize.ShloMosaic.Tactic
open Idealize.SL Idealize.SL.Sem
open Cert.Post
open Idealize.ShloMosaic.Pipeline (Dat)

variable (m : (ℓ : Loc nD τ sig) → Buf (Elt Ideal) ℓ) (c : Dev nD) (ρ : Dev nD → PrngReg)

/-- The blocks' places: 512 rows at a point, the weights whole. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val, 0] :=
  (by decide +kernel : ∀ t : Fin grid0.N, _)

theorem lt32 : ∀ t : Fin cfg0.N, t.val < 32 := (by decide +kernel : ∀ t : Fin grid0.N, t.val < 32)

/-- The row of the arrays at a point's row. -/
def row (t : Fin cfg0.N) (p : Fin 512) : Fin 16384 := ⟨t.val * 512 + p.val, by have := lt32 t; omega⟩

/-- A weight matrix as the host hands it on. -/
theorem weight_at {n k : ℕ} (W : FVec Ideal ⟨3, ![1, n, k]⟩ .f32) (h : (⟨3, ![1, n, k]⟩ : Shape).ShapeCasts ⟨2, ![n, k]⟩) (b) (i : Fin n) (j : Fin k) :
    (truncf .bf16 (shapeCast ⟨2, ![n, k]⟩ W h : FVec Ideal ⟨2, ![n, k]⟩ .f32) b : FVec Ideal ⟨2, ![n, k]⟩ .bf16) (ix2 i j) = W (ix3 0 i j) := by
  refine (shapeCast_dropUnit_apply ![n, k] W h (ix2 i j)).trans (congrArg W ?_)
  funext a
  match a with
  | ⟨0, _⟩ => rfl
  | ⟨1, _⟩ => rfl
  | ⟨2, _⟩ => rfl

theorem blk0_at (t : Fin cfg0.N) (p : Fin 512) (l : Fin 512) : iblk m c 0 t (ix2 p l) = m ((c : Thread nD τ).loc main_arg0) (ix2 (row t p) l) := by
  unfold row
  blk_ext! [iblk, V, idx t]
theorem blk1_at (t : Fin cfg0.N) (p : Fin 512) (l : Fin 1024) : iblk m c 1 t (ix2 p l) = m ((c : Thread nD τ).loc main_arg1) (ix2 (row t p) l) := by
  unfold row
  blk_ext! [iblk, V, idx t]
theorem blk2_at (t : Fin cfg0.N) (p : Fin 512) (l : Fin 1024) : iblk m c 2 t (ix2 p l) = m ((c : Thread nD τ).loc main_arg2) (ix2 (row t p) l) := by
  unfold row
  blk_ext! [iblk, V, idx t]
theorem blk3_at (t : Fin cfg0.N) (p : Fin 512) (l : Fin 1024) : iblk m c 3 t (ix2 p l) = m ((c : Thread nD τ).loc main_arg3) (ix2 (row t p) l) := by
  unfold row
  blk_ext! [iblk, V, idx t]
theorem blk4_at (t : Fin cfg0.N) (p : Fin 512) (l : Fin 256) : iblk m c 4 t (ix2 p l) = m ((c : Thread nD τ).loc main_arg4) (ix2 (row t p) l) := by
  unfold row
  blk_ext! [iblk, V, idx t]
theorem V_v1 : V m c main_v1 = (truncf .bf16 (shapeCast S512x1024 (m ((c : Thread nD τ).loc main_arg5)) shapeCasts_S1x512x1024_S512x1024 : FVec Ideal S512x1024 .f32) bitsLt_bf16_f32 : FVec Ideal S512x1024 .bf16) := by
  entry_read
  rfl
theorem blk5_at (t : Fin cfg0.N) (k : Fin 512) (j : Fin 1024) : iblk m c 5 t (ix2 k j) = m ((c : Thread nD τ).loc main_arg5) (ix3 0 k j) := by
  have e : iblk m c 5 t (ix2 k j) = V m c main_v1 (ix2 k j) := by blk_ext [iblk, idx t]
  rw [e, V_v1]
  exact weight_at _ _ _ k j
theorem V_v3 : V m c main_v3 = (truncf .bf16 (shapeCast S1024x1024 (m ((c : Thread nD τ).loc main_arg6)) shapeCasts_S1x1024x1024_S1024x1024 : FVec Ideal S1024x1024 .f32) bitsLt_bf16_f32 : FVec Ideal S1024x1024 .bf16) := by
  entry_read
  rfl
theorem blk6_at (t : Fin cfg0.N) (k : Fin 1024) (j : Fin 1024) : iblk m c 6 t (ix2 k j) = m ((c : Thread nD τ).loc main_arg6) (ix3 0 k j) := by
  have e : iblk m c 6 t (ix2 k j) = V m c main_v3 (ix2 k j) := by blk_ext [iblk, idx t]
  rw [e, V_v3]
  exact weight_at _ _ _ k j
theorem V_v5 : V m c main_v5 = (broadcastInDim S1x1024 ![1] bcast_S1024_S1x1024_1 (shapeCast S1024 (m ((c : Thread nD τ).loc main_arg7)) shapeCasts_S1x1024_S1024 : FVec Ideal S1024 .f32) : FVec Ideal S1x1024 .f32) := by
  entry_read
  rfl
theorem blk7_at (t : Fin cfg0.N) (k : Fin 1024) : iblk m c 7 t (ix2 0 k) = m ((c : Thread nD τ).loc main_arg7) (ix2 0 k) := by
  have e : iblk m c 7 t (ix2 0 k) = V m c main_v5 (ix2 0 k) := by blk_ext [iblk, idx t]
  rw [e, V_v5]
  pointwise []
theorem V_v7 : V m c main_v7 = (truncf .bf16 (shapeCast S1024x5632 (m ((c : Thread nD τ).loc main_arg8)) shapeCasts_S1x1024x5632_S1024x5632 : FVec Ideal S1024x5632 .f32) bitsLt_bf16_f32 : FVec Ideal S1024x5632 .bf16) := by
  entry_read
  rfl
theorem blk8_at (t : Fin cfg0.N) (k : Fin 1024) (j : Fin 5632) : iblk m c 8 t (ix2 k j) = m ((c : Thread nD τ).loc main_arg8) (ix3 0 k j) := by
  have e : iblk m c 8 t (ix2 k j) = V m c main_v7 (ix2 k j) := by blk_ext [iblk, idx t]
  rw [e, V_v7]
  exact weight_at _ _ _ k j
theorem V_v9 : V m c main_v9 = (truncf .bf16 (shapeCast S2816x1024 (m ((c : Thread nD τ).loc main_arg9)) shapeCasts_S1x2816x1024_S2816x1024 : FVec Ideal S2816x1024 .f32) bitsLt_bf16_f32 : FVec Ideal S2816x1024 .bf16) := by
  entry_read
  rfl
theorem blk9_at (t : Fin cfg0.N) (k : Fin 2816) (j : Fin 1024) : iblk m c 9 t (ix2 k j) = m ((c : Thread nD τ).loc main_arg9) (ix3 0 k j) := by
  have e : iblk m c 9 t (ix2 k j) = V m c main_v9 (ix2 k j) := by blk_ext [iblk, idx t]
  rw [e, V_v9]
  exact weight_at _ _ _ k j
theorem V_v11 : V m c main_v11 = (broadcastInDim S1x1024 ![1] bcast_S1024_S1x1024_1 (shapeCast S1024 (m ((c : Thread nD τ).loc main_arg10)) shapeCasts_S1x1024_S1024 : FVec Ideal S1024 .f32) : FVec Ideal S1x1024 .f32) := by
  entry_read
  rfl
theorem blk10_at (t : Fin cfg0.N) (k : Fin 1024) : iblk m c 10 t (ix2 0 k) = m ((c : Thread nD τ).loc main_arg10) (ix2 0 k) := by
  have e : iblk m c 10 t (ix2 0 k) = V m c main_v11 (ix2 0 k) := by blk_ext [iblk, idx t]
  rw [e, V_v11]
  pointwise []
theorem V_v13 : V m c main_v13 = (truncf .bf16 (shapeCast S1024x1024 (m ((c : Thread nD τ).loc main_arg11)) shapeCasts_S1x1024x1024_S1024x1024 : FVec Ideal S1024x1024 .f32) bitsLt_bf16_f32 : FVec Ideal S1024x1024 .bf16) := by
  entry_read
  rfl
theorem blk11_at (t : Fin cfg0.N) (k : Fin 1024) (j : Fin 1024) : iblk m c 11 t (ix2 k j) = m ((c : Thread nD τ).loc main_arg11) (ix3 0 k j) := by
  have e : iblk m c 11 t (ix2 k j) = V m c main_v13 (ix2 k j) := by blk_ext [iblk, idx t]
  rw [e, V_v13]
  exact weight_at _ _ _ k j
theorem V_v15 : V m c main_v15 = (truncf .bf16 (shapeCast S256x1024 (m ((c : Thread nD τ).loc main_arg12)) shapeCasts_S1x256x1024_S256x1024 : FVec Ideal S256x1024 .f32) bitsLt_bf16_f32 : FVec Ideal S256x1024 .bf16) := by
  entry_read
  rfl
theorem blk12_at (t : Fin cfg0.N) (k : Fin 256) (j : Fin 1024) : iblk m c 12 t (ix2 k j) = m ((c : Thread nD τ).loc main_arg12) (ix3 0 k j) := by
  have e : iblk m c 12 t (ix2 k j) = V m c main_v15 (ix2 k j) := by blk_ext [iblk, idx t]
  rw [e, V_v15]
  exact weight_at _ _ _ k j
theorem V_v16 : V m c main_v16 = (broadcastInDim S1x1024 ![1] bcast_S1024_S1x1024_1 (m ((c : Thread nD τ).loc main_arg13)) : FVec Ideal S1x1024 .f32) := by
  entry_read
  rfl
theorem blk13_at (t : Fin cfg0.N) (k : Fin 1024) : iblk m c 13 t (ix2 0 k) = m ((c : Thread nD τ).loc main_arg13) (ix1 k) := by
  have e : iblk m c 13 t (ix2 0 k) = V m c main_v16 (ix2 0 k) := by blk_ext [iblk, idx t]
  rw [e, V_v16]
  pointwise []

/-- The result. -/
def RES (a : FVec Ideal S16384x512 .bf16) (ga : FVec Ideal S16384x1024 .bf16) (mb : FVec Ideal S16384x1024 .bf16) (x1 : FVec Ideal S16384x1024 .f32) (p : FVec Ideal S16384x256 .f32) (wa : FVec Ideal S1x512x1024 .f32) (wo : FVec Ideal S1x1024x1024 .f32) (g2 : FVec Ideal S1x1024 .f32) (wu : FVec Ideal S1x1024x5632 .f32) (wd : FVec Ideal S1x2816x1024 .f32) (gp : FVec Ideal S1x1024 .f32) (wg : FVec Ideal S1x1024x1024 .f32) (wp : FVec Ideal S1x256x1024 .f32) (gf : FVec Ideal S1024 .f32) : FVec Ideal S16384x1024 .f32 := fun y =>
  out (fun k => a (ix2 (y 0) k)) (fun k => ga (ix2 (y 0) k)) (fun k => mb (ix2 (y 0) k)) (fun k => x1 (ix2 (y 0) k)) (fun k => p (ix2 (y 0) k)) (fun k j => wa (ix3 0 k j)) (fun k j => wo (ix3 0 k j)) (fun k => g2 (ix2 0 k)) (fun k j => wu (ix3 0 k j)) (fun k j => wd (ix3 0 k j)) (fun k => gp (ix2 0 k)) (fun k j => wg (ix3 0 k j)) (fun k j => wp (ix3 0 k j)) (fun k => gf (ix1 k)) (y 1)

/-- The result in a memory's arguments. -/
def RESm : FVec Ideal S16384x1024 .f32 := RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem emb14 (t : Fin cfg0.N) (y : S512x1024.Idx) : ((cfg0.win 14).blk t).view.emb y = ix2 (row t (y 0)) (y 1) := by
  unfold row
  blk_ext [idx t]

theorem after_at (t : Fin cfg0.N) (p : Fin 512) (j : Fin 1024) : (dats m 0 c).after 14 t (ix2 p j) = RESm m c (ix2 (row t p) j) := by
  refine (body_at m c t p j).trans ?_
  simp only [blk0_at, blk1_at, blk2_at, blk3_at, blk4_at, blk5_at, blk6_at, blk7_at, blk8_at, blk9_at, blk10_at, blk11_at, blk12_at, blk13_at]
  rfl

theorem BLK_eq (X : FVec Ideal S512x1024 .f32) (t : Fin cfg0.N) (h : ∀ p j, X (ix2 p j) = RESm m c (ix2 (row t p) j)) (y : S512x1024.Idx) :
    X y = RESm m c (((cfg0.win 14).blk t).view.emb y) := by
  refine Eq.trans ?_ (congrArg (RESm m c) (emb14 t y)).symm
  rw [eq_ix2 y]
  exact h _ _

theorem arr14 : (dats m 0 c).arrAt 14 cfg0.N = RESm m c :=
  (dats m 0 c).arrAt_eq_of_covers 14 _ (by decide +kernel) fun t _ y => BLK_eq m c _ t (after_at m c t) y

/-- The run: the result is the mathematics of every row, the arguments are as they were. -/
theorem val_run : θ_run defs (onTc (τ := τ) (main (F := Ideal))) ⟨m, fun _ => 0, ρ⟩ (fun r => ∀ c : Dev nD,
      r.2.mem ((c.tc : Thread nD τ).loc main_v17) = RESm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1.trans (arr14 m c), (h c).2⟩) (Cert.Kernel2Ideal.Value.run_blocks m ρ)

end Cert.Kernel2Ideal.Run
end
-- ==== Proof.RefPost.lean ====
/-
  The reference of the rest of the layer: its run, and its result row by row.
-/
module

public import proofs.«01_k».proof.Defs
public import proofs.«01_k».proof.Proof.Gen.Reference2Ideal.Run
public import proofs.«01_k».proof.Proof.PostMath
public import Idealize.ShloMosaic.Lib.Pipeline.ValueKit
public import Idealize.ShloMosaic.Lib.Quiescent

@[expose] public section
set_option maxRecDepth 16384
set_option maxHeartbeats 1600000
noncomputable section
namespace Cert.Reference2Ideal.Run
open Cert.Reference2Ideal Cert.Reference2Ideal.Gen Cert.Reference2Ideal.Value
open Idealize.ShloMosaic Idealize.ShloMosaic.TcCoe Idealize.ShloMosaic.Tactic
open Idealize.SL Idealize.SL.Sem
open Cert.Post

theorem frame : @Cert.quiescent_Reference2Ideal Cert.Reference2Ideal.Gen.facts := fun m ρ _ =>
  (θ_run defs _ _).mono (fun r h => ⟨fun c => (h c).2, Idealize.ShloMosaic.sem_eq_zero_of_no_sems (by decide) r.2⟩) (Value.run (F := Ideal) m ρ)

theorem one : Ideal.ofBits .f32 0x3F800000#32 = 1 := by
  simp [Ideal.ofBits, Ideal.ieee]
  norm_cast
  norm_num

/-- The norm of the rows, as the operations spell it. -/
def RMS (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The first residual with the two branches merged. -/
def ST1 (a : FVec Ideal S16384x512 .bf16) (ga mb : FVec Ideal S16384x1024 .bf16) (x1 : FVec Ideal S16384x1024 .f32) (wa : FVec Ideal S1x512x1024 .f32) (wo : FVec Ideal S1x1024x1024 .f32) : FVec Ideal S16384x1024 .f32 :=
  addf x1 (Host.dotGeneral dot_S16384x1024_S1024x1024_S16384x1024_1_0_0_1_n_n none (addf (mulf (extf .f32 ga bitsLt_bf16_f32) (Host.dotGeneral dot_S16384x512_S512x1024_S16384x1024_1_0_0_1_n_n none (extf .f32 a bitsLt_bf16_f32) (shapeCast S512x1024 wa shapeCasts_S1x512x1024_S512x1024))) (extf .f32 mb bitsLt_bf16_f32)) (shapeCast S1024x1024 wo shapeCasts_S1x1024x1024_S1024x1024))

/-- The logistic function, as the operations spell it. -/
def LOGI {S : Shape} (h : S_.BroadcastsInDim S ![]) (u : FVec Ideal S .f32) : FVec Ideal S .f32 :=
  Host.divf (broadcastInDim S ![] h (constant S_ .f32 0x3F800000#32)) (addf (broadcastInDim S ![] h (constant S_ .f32 0x3F800000#32)) (Host.exp (Host.negf u)))

/-- The hidden columns before the gate. -/
def ST2 (x : FVec Ideal S16384x1024 .f32) (g : FVec Ideal S1x1024 .f32) (wu : FVec Ideal S1x1024x5632 .f32) : FVec Ideal S16384x5632 .f32 :=
  Host.dotGeneral dot_S16384x1024_S1024x5632_S16384x5632_1_0_0_1_n_n none (RMS x (shapeCast S1024 g shapeCasts_S1x1024_S1024)) (shapeCast S1024x5632 wu shapeCasts_S1x1024x5632_S1024x5632)

/-- The feed-forward residual. -/
def ST3 (x : FVec Ideal S16384x1024 .f32) (u : FVec Ideal S16384x5632 .f32) (wd : FVec Ideal S1x2816x1024 .f32) : FVec Ideal S16384x1024 .f32 :=
  addf x (mulf (broadcastInDim S16384x1024 ![] bcast_S_S16384x1024 (constant S_ .f32 0x3F000000#32)) (Host.dotGeneral dot_S16384x2816_S2816x1024_S16384x1024_1_0_0_1_n_n none (mulf (mulf (extractStridedSlice S16384x2816 ![0, 0] u slices_S16384x5632_S16384x2816_0_0) (LOGI bcast_S_S16384x2816 (extractStridedSlice S16384x2816 ![0, 0] u slices_S16384x5632_S16384x2816_0_0))) (extractStridedSlice S16384x2816 ![0, 2816] u slices_S16384x5632_S16384x2816_0_2816)) (shapeCast S2816x1024 wd shapeCasts_S1x2816x1024_S2816x1024)))

/-- The gated residual. -/
def ST4 (x : FVec Ideal S16384x1024 .f32) (p : FVec Ideal S16384x256 .f32) (g : FVec Ideal S1x1024 .f32) (wg : FVec Ideal S1x1024x1024 .f32) (wp : FVec Ideal S1x256x1024 .f32) : FVec Ideal S16384x1024 .f32 :=
  addf x (mulf (LOGI bcast_S_S16384x1024 (Host.dotGeneral dot_S16384x1024_S1024x1024_S16384x1024_1_0_0_1_n_n none (RMS x (shapeCast S1024 g shapeCasts_S1x1024_S1024)) (shapeCast S1024x1024 wg shapeCasts_S1x1024x1024_S1024x1024))) (Host.dotGeneral dot_S16384x256_S256x1024_S16384x1024_1_0_0_1_n_n none p (shapeCast S256x1024 wp shapeCasts_S1x256x1024_S256x1024)))

/-- The result as one term over the arguments. -/
def REF (a : FVec Ideal S16384x512 .bf16) (ga : FVec Ideal S16384x1024 .bf16) (mb : FVec Ideal S16384x1024 .bf16) (x1 : FVec Ideal S16384x1024 .f32) (p : FVec Ideal S16384x256 .f32) (wa : FVec Ideal S1x512x1024 .f32) (wo : FVec Ideal S1x1024x1024 .f32) (g2 : FVec Ideal S1x1024 .f32) (wu : FVec Ideal S1x1024x5632 .f32) (wd : FVec Ideal S1x2816x1024 .f32) (gp : FVec Ideal S1x1024 .f32) (wg : FVec Ideal S1x1024x1024 .f32) (wp : FVec Ideal S1x256x1024 .f32) (gf : FVec Ideal S1024 .f32) : FVec Ideal S16384x1024 .f32 :=
  RMS (ST4 (ST3 (ST1 a ga mb x1 wa wo) (ST2 (ST1 a ga mb x1 wa wo) g2 wu) wd) p gp wg wp) gf

theorem RMS_at (x : FVec Ideal S16384x1024 .f32) (g : FVec Ideal S1024 .f32) (r : Fin 16384) (j : Fin 1024) :
    RMS x g (ix2 r j) = rms (fun k => x (ix2 r k)) (fun k => g (ix1 k)) j := by
  pointwise [RMS, rms]

theorem ST1_at (a : FVec Ideal S16384x512 .bf16) (ga mb : FVec Ideal S16384x1024 .bf16) (x1 : FVec Ideal S16384x1024 .f32) (wa : FVec Ideal S1x512x1024 .f32) (wo : FVec Ideal S1x1024x1024 .f32) (r : Fin 16384) (j : Fin 1024) :
    ST1 a ga mb x1 wa wo (ix2 r j) = plus (fun k => x1 (ix2 r k)) (merged (fun k => a (ix2 r k)) (fun k => ga (ix2 r k)) (fun k => mb (ix2 r k)) (fun k j => wa (ix3 0 k j))) (fun k j => wo (ix3 0 k j)) j := by
  pointwise [ST1, plus, merged, dot]

theorem ST2_at (x : FVec Ideal S16384x1024 .f32) (g : FVec Ideal S1x1024 .f32) (wu : FVec Ideal S1x1024x5632 .f32) (r : Fin 16384) (l : Fin 5632) :
    ST2 x g wu (ix2 r l) = ∑ k, rms (fun k => x (ix2 r k)) (fun k => g (ix2 0 k)) k * wu (ix3 0 k l) := by
  pointwise [ST2, RMS, rms]

theorem LOGI_at {S : Shape} (h) (u : FVec Ideal S .f32) (i : S.Idx) : LOGI h u i = Ideal.logistic (u i) := by
  show Ideal.div (Ideal.ofBits .f32 0x3F800000#32) (Ideal.ofBits .f32 0x3F800000#32 + Ideal.exp (-(u i))) = _
  rw [one]; rfl

theorem ST3_at (x : FVec Ideal S16384x1024 .f32) (u : FVec Ideal S16384x5632 .f32) (wd : FVec Ideal S1x2816x1024 .f32) (r : Fin 16384) (j : Fin 1024) :
    ST3 x u wd (ix2 r j) = half (fun k => x (ix2 r k)) (fun l : Fin 2816 => u (ix2 r ⟨l.val, by omega⟩) * Ideal.logistic (u (ix2 r ⟨l.val, by omega⟩)) * u (ix2 r ⟨2816 + l.val, by omega⟩)) (fun k j => wd (ix3 0 k j)) j := by
  pointwise [ST3, half, dot, LOGI_at]

theorem ST4_at (x : FVec Ideal S16384x1024 .f32) (p : FVec Ideal S16384x256 .f32) (g : FVec Ideal S1x1024 .f32) (wg : FVec Ideal S1x1024x1024 .f32) (wp : FVec Ideal S1x256x1024 .f32) (r : Fin 16384) (j : Fin 1024) :
    ST4 x p g wg wp (ix2 r j) = gated (fun k => x (ix2 r k)) (rms (fun k => x (ix2 r k)) (fun k => g (ix2 0 k))) (fun k => p (ix2 r k)) (fun k j => wg (ix3 0 k j)) (fun k j => wp (ix3 0 k j)) j := by
  pointwise [ST4, RMS, rms, gated, dot, LOGI_at]

theorem REF_at (a : FVec Ideal S16384x512 .bf16) (ga : FVec Ideal S16384x1024 .bf16) (mb : FVec Ideal S16384x1024 .bf16) (x1 : FVec Ideal S16384x1024 .f32) (p : FVec Ideal S16384x256 .f32) (wa : FVec Ideal S1x512x1024 .f32) (wo : FVec Ideal S1x1024x1024 .f32) (g2 : FVec Ideal S1x1024 .f32) (wu : FVec Ideal S1x1024x5632 .f32) (wd : FVec Ideal S1x2816x1024 .f32) (gp : FVec Ideal S1x1024 .f32) (wg : FVec Ideal S1x1024x1024 .f32) (wp : FVec Ideal S1x256x1024 .f32) (gf : FVec Ideal S1024 .f32) (r : Fin 16384) (j : Fin 1024) :
    REF a ga mb x1 p wa wo g2 wu wd gp wg wp gf (ix2 r j) = out (fun k => a (ix2 r k)) (fun k => ga (ix2 r k)) (fun k => mb (ix2 r k)) (fun k => x1 (ix2 r k)) (fun k => p (ix2 r k)) (fun k j => wa (ix3 0 k j)) (fun k j => wo (ix3 0 k j)) (fun k => g2 (ix2 0 k)) (fun k j => wu (ix3 0 k j)) (fun k j => wd (ix3 0 k j)) (fun k => gp (ix2 0 k)) (fun k j => wg (ix3 0 k j)) (fun k j => wp (ix3 0 k j)) (fun k => gf (ix1 k)) j := by
  unfold REF
  refine (RMS_at _ _ r j).trans ?_
  simp only [ST4_at, ST3_at, ST2_at, ST1_at]
  rfl

/-- The result in a memory's arguments. -/
def REFm (m : (ℓ : Loc nD τ sig) → Buf (Elt Ideal) ℓ) (c : Dev nD) : FVec Ideal S16384x1024 .f32 := REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- The run: the result is that term, the arguments are as they were. -/
theorem ref_run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v73) = REFm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1.trans rfl, (h c).2⟩) (Value.run (F := Ideal) m ρ)

end Cert.Reference2Ideal.Run
end
-- ==== Proof.PreMath.lean ====
/-
  The gate of the attention branch, as mathematics on one row.
-/
module

public import proofs.«01_k».proof.Proof.PostMath

@[expose] public section
noncomputable section
namespace Cert.Post
open Idealize.ShloMosaic

/-- The gate: the logistic function of the normed row times 1024 columns of the input weights, from column 1792 on. -/
def gate (x g : Fin 1024 → EReal) (W : Fin 1024 → Fin 3840 → EReal) (j : Fin 1024) : EReal :=
  Ideal.logistic (dot (rms x g) (fun k (l : Fin 1024) => W k ⟨1792 + l.val, by omega⟩) j)

end Cert.Post
end
-- ==== Proof.Pre.lean ====
/-
  The first call's arithmetic, of the rows after the feed-forward layer and of their gate, as the mathematics of the rows.
-/
module

public import proofs.«01_k».proof.Proof.Gen.Kernel3Ideal.Skeleton
public import proofs.«01_k».proof.Proof.PreMath
public import Idealize.ShloMosaic.Lib.Pipeline.ValueKit
public import Idealize.ShloMosaic.Lib.Claim

@[expose] public section
set_option maxRecDepth 16384
set_option maxHeartbeats 400000
noncomputable section
namespace Cert.Kernel3Ideal.Run
open Cert.Kernel3Ideal Cert.Kernel3Ideal.Gen
open Idealize.ShloMosaic Idealize.ShloMosaic.TcCoe Idealize.ShloMosaic.Tactic
open Cert.Post

theorem pay3_at (x : FVec Ideal S256x1024 .f32) (g : FVec Ideal S1x1024 .f32) (i : Fin 256) (j : Fin 1024) :
    k0_pay3 (F := Ideal) x g (ix2 i j) = rms (fun k => x (ix2 i k)) (fun k => g (ix2 0 k)) j := by
  pointwise [k0_pay3, k0_pay1, rms]

theorem pay8_at (h : FVec Ideal S256x1024 .bf16) (u v : FVec Ideal S1024x256 .bf16) (i l : Fin 256) :
    k0_pay8 (F := Ideal) h u v (ix2 i l) = unit (fun k => h (ix2 i k)) (fun k => u (ix2 k l)) (fun k => v (ix2 k l)) := by
  pointwise [k0_pay8, Cert.Post.unit]

theorem pay37_at (x : FVec Ideal S256x1024 .f32) (z : FVec Ideal S256x2816 .bf16) (w : FVec Ideal S2816x1024 .bf16) (i : Fin 256) (j : Fin 1024) :
    k0_pay37 (F := Ideal) (k0_pay1 x) z (k0_pay36 w) (ix2 i j) = half (fun k => x (ix2 i k)) (fun k => z (ix2 i k)) (fun k j => w (ix2 k j)) j := by
  pointwise [k0_pay37, k0_pay1, k0_pay36, half, dot]

/-- The first half of a block's rows after the feed-forward layer. -/
theorem lower (x : FVec Ideal S256x1024 .f32) (g : FVec Ideal S1x1024 .f32) (wu : FVec Ideal S1024x5632 .bf16) (wd : FVec Ideal S2816x1024 .bf16)
    (z : FVec Ideal S256x2816 .bf16) (i : Fin 256) (j : Fin 1024)
    (hz : ∀ l, z (ix2 i l) = units (fun k => k0_pay3 (F := Ideal) x g (ix2 i k)) (fun k l => wu (ix2 k l)) l) :
    k0_pay37 (F := Ideal) (k0_pay1 x) z (k0_pay36 wd) (ix2 i j)
      = ffn (fun k => x (ix2 i k)) (fun k => g (ix2 0 k)) (fun k j => wu (ix2 k j)) (fun k j => wd (ix2 k j)) j := by
  simp only [pay37_at, hz, pay3_at]
  rfl

/-- The second half: its arithmetic is the first half's. -/
theorem upper (x : FVec Ideal S256x1024 .f32) (g : FVec Ideal S1x1024 .f32) (wu : FVec Ideal S1024x5632 .bf16) (wd : FVec Ideal S2816x1024 .bf16)
    (z : FVec Ideal S256x2816 .bf16) (i : Fin 256) (j : Fin 1024)
    (hz : ∀ l, z (ix2 i l) = units (fun k => k0_pay4 (F := Ideal) x g (ix2 i k)) (fun k l => wu (ix2 k l)) l) :
    k0_pay38 (F := Ideal) (k0_pay2 x) z wd (ix2 i j)
      = ffn (fun k => x (ix2 i k)) (fun k => g (ix2 0 k)) (fun k j => wu (ix2 k j)) (fun k j => wd (ix2 k j)) j :=
  lower x g wu wd z i j hz

/-- The gate of the first half's rows. -/
theorem gate_lower (x : FVec Ideal S256x1024 .f32) (z : FVec Ideal S256x2816 .bf16) (wd : FVec Ideal S2816x1024 .bf16) (g : FVec Ideal S1x1024 .f32)
    (w : FVec Ideal S1024x1024 .bf16) (i : Fin 256) (j : Fin 1024) :
    k0_pay53 (F := Ideal) (k0_pay39 (k0_pay1 x) z (k0_pay36 wd) g) (k0_pay52 w) (constant S256x1024 .f32 0#32) (ix2 i j)
      = Ideal.logistic (dot (rms (fun k => k0_pay37 (F := Ideal) (k0_pay1 x) z (k0_pay36 wd) (ix2 i k)) (fun k => g (ix2 0 k))) (fun k j => w (ix2 k j)) j) := by
  generalize k0_pay1 (F := Ideal) x = x'
  generalize k0_pay36 (F := Ideal) wd = w'
  pointwise [k0_pay53, k0_pay52, k0_pay39, dot, rms]

/-- The gate of the second half's rows. -/
theorem gate_upper (x : FVec Ideal S256x1024 .f32) (z : FVec Ideal S256x2816 .bf16) (wd : FVec Ideal S2816x1024 .bf16) (g : FVec Ideal S1x1024 .f32)
    (w : FVec Ideal S1024x1024 .bf16) (i : Fin 256) (j : Fin 1024) :
    k0_pay54 (F := Ideal) (k0_pay43 (k0_pay38 (k0_pay2 x) z wd) (k0_pay40 g) (k0_pay41 (k0_pay2 x) z wd) k0_pay42) w (ix2 i j)
      = Ideal.logistic (dot (rms (fun k => k0_pay38 (F := Ideal) (k0_pay2 x) z wd (ix2 i k)) (fun k => g (ix2 0 k))) (fun k j => w (ix2 k j)) j) :=
  gate_lower x z wd g w i j

end Cert.Kernel3Ideal.Run
end
-- ==== Proof.PreBody.lean ====
/-
  The blocks of the rows after the feed-forward layer and of their gate that the first call's body leaves, element by
  element: the two halves of the rows, and the hidden units by tiles of columns.
-/
module

public import proofs.«01_k».proof.Proof.Gen.Kernel3Ideal.Value
public import proofs.«01_k».proof.Proof.Pre
public import proofs.«01_k».proof.Proof.PostBody
public import Idealize.ShloMosaic.Lib.Pipeline.ValueKit
public import Idealize.ShloMosaic.Lib.Claim

@[expose] public section
set_option maxRecDepth 16384
set_option maxHeartbeats 1000000
noncomputable section
namespace Cert.Kernel3Ideal.Run
open Cert.Kernel3Ideal Cert.Kernel3Ideal.Gen
open Idealize.ShloMosaic Idealize.ShloMosaic.TcCoe Idealize.ShloMosaic.Tactic
open Idealize.SL Idealize.SL.Sem
open Cert.Post
open Cert.Kernel2Ideal.Run (ld_at no_hi no_lo)
open Idealize.ShloMosaic.Pipeline (Dat)

variable (m : (ℓ : Loc nD τ sig) → Buf (Elt Ideal) ℓ) (c : Dev nD)

/-- A hidden unit computed from a tile of the weights' columns and the tile 2816 columns further on. -/
theorem tile (h : FVec Ideal S256x1024 .bf16) (W : FVec Ideal S1024x5632 .bf16) (o o' : ℕ) (inb inb') (a b i : Fin 256) (l : Fin 2816)
    (hi : i.val = a.val) (hl : 0 + l.val = o + b.val) (ho : o' = 2816 + o) :
    k0_pay8 (F := Ideal) h (View.ld (Val := Elt Ideal) (S := S1024x5632) (e' := .bf16) W (Rect.unit ![0, o] ![1024, 256] inb))
      (View.ld (Val := Elt Ideal) (S := S1024x5632) (e' := .bf16) W (Rect.unit ![0, o'] ![1024, 256] inb')) (ix2 a b)
      = units (fun k => h (ix2 i k)) (fun k l => W (ix2 k l)) l := by
  obtain rfl : i = a := Fin.ext hi
  refine (pay8_at h _ _ i b).trans ?_
  unfold units
  congr 1
  · exact funext fun k => ld_at (n := 1024) (k := 5632) (e := .bf16) W inb k b k ⟨l.val, by omega⟩ (Nat.zero_add _).symm ((Nat.zero_add _).symm.trans hl)
  · exact funext fun k => ld_at (n := 1024) (k := 5632) (e := .bf16) W inb' k b k ⟨2816 + l.val, by omega⟩ (Nat.zero_add _).symm (show 2816 + l.val = o' + b.val by omega)

/-- The gate of equal rows, of a tile of the weights' columns. -/
theorem gate_of {X X' g : Fin 1024 → EReal} {w : Fin 1024 → Fin 1024 → EReal} {W : Fin 1024 → Fin 3840 → EReal} {j : Fin 1024} (hX : ∀ k, X k = X' k)
    (hW : ∀ k l, w k l = W k ⟨1792 + l.val, by omega⟩) : Ideal.logistic (dot (rms X g) w j) = gate X' g W j := by
  obtain rfl : X = X' := funext hX
  obtain rfl : w = fun k l => W k ⟨1792 + l.val, by omega⟩ := funext fun k => funext (hW k)
  rfl

/-- The feed-forward layer of equal rows. -/
theorem ffn_of {X X' g : Fin 1024 → EReal} {wu : Fin 1024 → Fin 5632 → EReal} {wd : Fin 2816 → Fin 1024 → EReal} {j : Fin 1024} (hX : ∀ k, X k = X' k) :
    ffn X g wu wd j = ffn X' g wu wd j := by
  obtain rfl : X = X' := funext hX
  rfl

theorem pay5_eq (x : FVec Ideal S256x1024 .f32) (g : FVec Ideal S1x1024 .f32) (w : FVec Ideal S1024x256 .bf16) :
    k0_pay5 (F := Ideal) x g w = k0_pay20 (k0_pay3 x g) w := rfl

/-- What the body leaves at an element of the block of the rows after the feed-forward layer. -/
theorem x1_at (t : Fin cfg0.N) (p : Fin 512) (j : Fin 1024) : (dats m 0 c).after 16 t (ix2 p j)
    = ffn (fun k => iblk m c 0 t (ix2 p k)) (fun k => iblk m c 3 t (ix2 0 k)) (fun k j => iblk m c 4 t (ix2 k j)) (fun k j => iblk m c 5 t (ix2 k j)) j := by
  rw [after0_16]
  unfold outsAt0
  frame_out
  canon_tiles x h
  · rw [eq_ix2 x]
    have hp : p.val = 256 + (x 0).val := h0
    obtain rfl : x 1 = j := Fin.ext h1.symm
    refine (upper _ (iblk m c 3 t) (iblk m c 4 t) _ _ (x 0) (x 1) fun l => ?_).trans ?_
    · generalize k0_pay4 (F := Ideal) _ _ = H
      rw [View.readCov_eq_canon']
      canon_tiles z h
      all_goals
        rw [Rect.idx_unit_val] at h0 h1
        replace h0 : 256 + (x 0).val = _ := h0
        replace h1 : 0 + l.val = _ := h1
        first
        | exact (no_hi h0 z0_lt).elim
        | (rw [eq_ix2 z]; exact tile H (iblk m c 4 t) _ _ _ _ (z 0) (z 1) (x 0) l (Nat.add_left_cancel h0) h1 rfl)
        | (rw [eq_ix2 z]; exact tile H (iblk m c 4 t) _ _ _ _ (z 0) (z 1) (x 0) l (Nat.add_left_cancel h0) (h1.trans (Nat.zero_add _).symm) rfl)
    · exact ffn_of fun k => ld_at (n := 512) (k := 1024) (e := .f32) (iblk m c 0 t) _ (x 0) k p k hp (Nat.zero_add _).symm
  · rw [eq_ix2 x]
    have hp : p.val = (x 0).val := h0
    obtain rfl : x 1 = j := Fin.ext h1.symm
    refine (lower _ (iblk m c 3 t) (iblk m c 4 t) _ _ (x 0) (x 1) fun l => ?_).trans ?_
    · simp only [pay5_eq]
      generalize k0_pay3 (F := Ideal) _ _ = H
      rw [View.readCov_eq_canon']
      canon_tiles z h
      all_goals
        rw [Rect.idx_unit_val] at h0 h1
        replace h0 : 0 + (x 0).val = _ := h0
        replace h1 : 0 + l.val = _ := h1
        first
        | exact (no_lo h0 x0_lt).elim
        | (rw [eq_ix2 z]; exact tile H (iblk m c 4 t) _ _ _ _ (z 0) (z 1) (x 0) l ((Nat.zero_add _).symm.trans h0) h1 rfl)
        | (rw [eq_ix2 z]; exact tile H (iblk m c 4 t) _ _ _ _ (z 0) (z 1) (x 0) l ((Nat.zero_add _).symm.trans h0) (h1.trans (Nat.zero_add _).symm) rfl)
    · exact ffn_of fun k => ld_at (n := 512) (k := 1024) (e := .f32) (iblk m c 0 t) _ (x 0) k p k (hp.trans (Nat.zero_add _).symm) (Nat.zero_add _).symm

/-- What the body leaves at an element of the block of the gate, in the block of the rows after the feed-forward layer. -/
theorem sga_at (t : Fin cfg0.N) (p : Fin 512) (j : Fin 1024) : (dats m 0 c).after 20 t (ix2 p j)
    = gate (fun k => (dats m 0 c).after 16 t (ix2 p k)) (fun k => iblk m c 6 t (ix2 0 k)) (fun k j => iblk m c 7 t (ix2 k j)) j := by
  rw [after0_20]
  unfold outsAt0
  frame_out
  canon_tiles x h
  · rw [eq_ix2 x]
    have hp : p.val = 256 + (x 0).val := h0
    obtain rfl : x 1 = j := Fin.ext h1.symm
    refine (gate_upper _ _ _ (iblk m c 6 t) _ (x 0) (x 1)).trans (gate_of (fun k => ?_) fun k l => ?_)
    · symm
      rw [after0_16]
      unfold outsAt0
      frame_out
      canon_tiles y h
      · obtain rfl : y = ix2 (x 0) k := by
          rw [eq_ix2 y]
          exact congrArg₂ ix2 (Fin.ext (Nat.add_left_cancel (h0.symm.trans hp))) (Fin.ext h1.symm)
        rfl
      · exact (no_hi (hp.symm.trans h0) y0_lt).elim
    · exact ld_at (n := 1024) (k := 3840) (e := .bf16) (iblk m c 7 t) _ k l k ⟨1792 + l.val, by omega⟩ (Nat.zero_add _).symm rfl
  · rw [eq_ix2 x]
    have hp : p.val = (x 0).val := h0
    obtain rfl : x 1 = j := Fin.ext h1.symm
    refine (gate_lower _ _ _ (iblk m c 6 t) _ (x 0) (x 1)).trans (gate_of (fun k => ?_) fun k l => ?_)
    · symm
      rw [after0_16]
      unfold outsAt0
      frame_out
      canon_tiles y h
      · exact (no_hi (h0.symm.trans hp) x0_lt).elim
      · obtain rfl : y = ix2 (x 0) k := by
          rw [eq_ix2 y]
          exact congrArg₂ ix2 (Fin.ext (h0.symm.trans hp)) (Fin.ext h1.symm)
        rfl
    · exact ld_at (n := 1024) (k := 3840) (e := .bf16) (iblk m c 7 t) _ k l k ⟨1792 + l.val, by omega⟩ (Nat.zero_add _).symm rfl

end Cert.Kernel3Ideal.Run
end
-- ==== Proof.PreVal.lean ====
/-
  The exact run of the layer's first call: every row of two of its results, the rows after the feed-forward layer and
  their gate, is the mathematics of that row.
-/
module

public import proofs.«01_k».proof.Proof.PreBody
public import proofs.«01_k».proof.Proof.PostVal

@[expose] public section
set_option maxRecDepth 16384
set_option maxHeartbeats 800000
noncomputable section
namespace Cert.Kernel3Ideal.Run
open Cert.Kernel3Ideal Cert.Kernel3Ideal.Gen
open Idealize.ShloMosaic Idealize.ShloMosaic.TcCoe Idealize.ShloMosaic.Tactic
open Idealize.SL Idealize.SL.Sem
open Cert.Post
open Cert.Kernel2Ideal.Run (weight_at)
open Idealize.ShloMosaic.Pipeline (Dat)

variable (m : (ℓ : Loc nD τ sig) → Buf (Elt Ideal) ℓ) (c : Dev nD) (ρ : Dev nD → PrngReg)

/-- The blocks' places: 512 rows at a point, the weights whole. -/
theorem idx : ∀ t : Fin cfg0.N, win0_0.index t = ![t.val, 0] ∧ win0_3.index t = ![0, 0] ∧ win0_4.index t = ![0, 0] ∧ win0_5.index t = ![0, 0] ∧ win0_6.index t = ![0, 0] ∧ win0_7.index t = ![0, 0] ∧ win0_16.index t = ![t.val, 0] ∧ win0_20.index t = ![t.val, 0] :=
  (by decide +kernel : ∀ t : Fin grid0.N, _)

theorem lt32 : ∀ t : Fin cfg0.N, t.val < 32 := (by decide +kernel : ∀ t : Fin grid0.N, t.val < 32)

/-- The row of the arrays at a point's row. -/
def row (t : Fin cfg0.N) (p : Fin 512) : Fin 16384 := ⟨t.val * 512 + p.val, by have := lt32 t; omega⟩

/-- The tokens of the four sequences as rows. -/
def ROWS (x : FVec Ideal S4x4096x1024 .f32) : FVec Ideal S16384x1024 .f32 := shapeCast S16384x1024 x shapeCasts_S4x4096x1024_S16384x1024

theorem V_v59 : V m c main_v59 = ROWS (m ((c : Thread nD τ).loc main_arg0)) := by
  unfold ROWS
  entry_read
  rfl
theorem blk0_at (t : Fin cfg0.N) (p : Fin 512) (l : Fin 1024) : iblk m c 0 t (ix2 p l) = ROWS (m ((c : Thread nD τ).loc main_arg0)) (ix2 (row t p) l) := by
  have e : iblk m c 0 t (ix2 p l) = V m c main_v59 (ix2 (row t p) l) := by
    unfold row
    blk_ext [iblk, idx t]
  rw [e, V_v59]
theorem V_v61 : V m c main_v61 = (broadcastInDim S1x1024 ![1] bcast_S1024_S1x1024_1 (shapeCast S1024 (m ((c : Thread nD τ).loc main_arg1)) shapeCasts_S1x1024_S1024 : FVec Ideal S1024 .f32) : FVec Ideal S1x1024 .f32) := by
  entry_read
  rfl
theorem blk3_at (t : Fin cfg0.N) (k : Fin 1024) : iblk m c 3 t (ix2 0 k) = m ((c : Thread nD τ).loc main_arg1) (ix2 0 k) := by
  have e : iblk m c 3 t (ix2 0 k) = V m c main_v61 (ix2 0 k) := by blk_ext [iblk, idx t]
  rw [e, V_v61]
  pointwise []
theorem V_v63 : V m c main_v63 = (truncf .bf16 (shapeCast S1024x5632 (m ((c : Thread nD τ).loc main_arg2)) shapeCasts_S1x1024x5632_S1024x5632 : FVec Ideal S1024x5632 .f32) bitsLt_bf16_f32 : FVec Ideal S1024x5632 .bf16) := by
  entry_read
  rfl
theorem blk4_at (t : Fin cfg0.N) (k : Fin 1024) (j : Fin 5632) : iblk m c 4 t (ix2 k j) = m ((c : Thread nD τ).loc main_arg2) (ix3 0 k j) := by
  have e : iblk m c 4 t (ix2 k j) = V m c main_v63 (ix2 k j) := by blk_ext [iblk, idx t]
  rw [e, V_v63]
  exact weight_at _ _ _ k j
theorem V_v65 : V m c main_v65 = (truncf .bf16 (shapeCast S2816x1024 (m ((c : Thread nD τ).loc main_arg3)) shapeCasts_S1x2816x1024_S2816x1024 : FVec Ideal S2816x1024 .f32) bitsLt_bf16_f32 : FVec Ideal S2816x1024 .bf16) := by
  entry_read
  rfl
theorem blk5_at (t : Fin cfg0.N) (k : Fin 2816) (j : Fin 1024) : iblk m c 5 t (ix2 k j) = m ((c : Thread nD τ).loc main_arg3) (ix3 0 k j) := by
  have e : iblk m c 5 t (ix2 k j) = V m c main_v65 (ix2 k j) := by blk_ext [iblk, idx t]
  rw [e, V_v65]
  exact weight_at _ _ _ k j
theorem V_v67 : V m c main_v67 = (broadcastInDim S1x1024 ![1] bcast_S1024_S1x1024_1 (shapeCast S1024 (m ((c : Thread nD τ).loc main_arg4)) shapeCasts_S1x1024_S1024 : FVec Ideal S1024 .f32) : FVec Ideal S1x1024 .f32) := by
  entry_read
  rfl
theorem blk6_at (t : Fin cfg0.N) (k : Fin 1024) : iblk m c 6 t (ix2 0 k) = m ((c : Thread nD τ).loc main_arg4) (ix2 0 k) := by
  have e : iblk m c 6 t (ix2 0 k) = V m c main_v67 (ix2 0 k) := by blk_ext [iblk, idx t]
  rw [e, V_v67]
  pointwise []
theorem V_v69 : V m c main_v69 = (truncf .bf16 (shapeCast S1024x3840 (m ((c : Thread nD τ).loc main_arg5)) shapeCasts_S1x1024x3840_S1024x3840 : FVec Ideal S1024x3840 .f32) bitsLt_bf16_f32 : FVec Ideal S1024x3840 .bf16) := by
  entry_read
  rfl
theorem blk7_at (t : Fin cfg0.N) (k : Fin 1024) (j : Fin 3840) : iblk m c 7 t (ix2 k j) = m ((c : Thread nD τ).loc main_arg5) (ix3 0 k j) := by
  have e : iblk m c 7 t (ix2 k j) = V m c main_v69 (ix2 k j) := by blk_ext [iblk, idx t]
  rw [e, V_v69]
  exact weight_at _ _ _ k j

/-- The rows after the feed-forward layer. -/
def RESX (x : FVec Ideal S4x4096x1024 .f32) (g : FVec Ideal S1x1024 .f32) (wu : FVec Ideal S1x1024x5632 .f32) (wd : FVec Ideal S1x2816x1024 .f32) : FVec Ideal S16384x1024 .f32 := fun y =>
  ffn (fun k => ROWS x (ix2 (y 0) k)) (fun k => g (ix2 0 k)) (fun k j => wu (ix3 0 k j)) (fun k j => wd (ix3 0 k j)) (y 1)

/-- Their gate. -/
def RESG (x1 : FVec Ideal S16384x1024 .f32) (g : FVec Ideal S1x1024 .f32) (w : FVec Ideal S1x1024x3840 .f32) : FVec Ideal S16384x1024 .bf16 := fun y =>
  gate (fun k => x1 (ix2 (y 0) k)) (fun k => g (ix2 0 k)) (fun k j => w (ix3 0 k j)) (y 1)

/-- The results in a memory's arguments. -/
def RESXm : FVec Ideal S16384x1024 .f32 := RESX (m ((c.tc : Thread nD τ).loc main_arg0)) (m ((c.tc : Thread nD τ).loc main_arg1)) (m ((c.tc : Thread nD τ).loc main_arg2)) (m ((c.tc : Thread nD τ).loc main_arg3))
def RESGm : FVec Ideal S16384x1024 .bf16 := RESG (RESXm m c) (m ((c.tc : Thread nD τ).loc main_arg4)) (m ((c.tc : Thread nD τ).loc main_arg5))

theorem emb16 (t : Fin cfg0.N) (y : S512x1024.Idx) : ((cfg0.win 16).blk t).view.emb y = ix2 (row t (y 0)) (y 1) := by
  unfold row
  blk_ext [idx t]

theorem emb20 (t : Fin cfg0.N) (y : S512x1024.Idx) : ((cfg0.win 20).blk t).view.emb y = ix2 (row t (y 0)) (y 1) := by
  unfold row
  blk_ext [idx t]

theorem after16_at (t : Fin cfg0.N) (p : Fin 512) (j : Fin 1024) : (dats m 0 c).after 16 t (ix2 p j) = RESXm m c (ix2 (row t p) j) := by
  refine (x1_at m c t p j).trans ?_
  simp only [blk0_at, blk3_at, blk4_at, blk5_at]
  rfl

theorem after20_at (t : Fin cfg0.N) (p : Fin 512) (j : Fin 1024) : (dats m 0 c).after 20 t (ix2 p j) = RESGm m c (ix2 (row t p) j) := by
  refine (sga_at m c t p j).trans ?_
  simp only [after16_at, blk6_at, blk7_at]
  rfl

theorem BLKX_eq (X : FVec Ideal S512x1024 .f32) (t : Fin cfg0.N) (h : ∀ p j, X (ix2 p j) = RESXm m c (ix2 (row t p) j)) (y : S512x1024.Idx) :
    X y = RESXm m c (((cfg0.win 16).blk t).view.emb y) := by
  refine Eq.trans ?_ (congrArg (RESXm m c) (emb16 t y)).symm
  rw [eq_ix2 y]
  exact h _ _

theorem BLKG_eq (X : FVec Ideal S512x1024 .bf16) (t : Fin cfg0.N) (h : ∀ p j, X (ix2 p j) = RESGm m c (ix2 (row t p) j)) (y : S512x1024.Idx) :
    X y = RESGm m c (((cfg0.win 20).blk t).view.emb y) := by
  refine Eq.trans ?_ (congrArg (RESGm m c) (emb20 t y)).symm
  rw [eq_ix2 y]
  exact h _ _

theorem arr16 : (dats m 0 c).arrAt 16 cfg0.N = RESXm m c :=
  (dats m 0 c).arrAt_eq_of_covers 16 _ (by decide +kernel) fun t _ y => BLKX_eq m c _ t (after16_at m c t) y

theorem arr20 : (dats m 0 c).arrAt 20 cfg0.N = RESGm m c :=
  (dats m 0 c).arrAt_eq_of_covers 20 _ (by decide +kernel) fun t _ y => BLKG_eq m c _ t (after20_at m c t) y

/-- The run: the two results are the mathematics of every row, the arguments are as they were. -/
theorem val_run : θ_run defs (onTc (τ := τ) (main (F := Ideal))) ⟨m, fun _ => 0, ρ⟩ (fun r => ∀ c : Dev nD,
      r.2.mem ((c.tc : Thread nD τ).loc main_v104_0) = RESXm m c
      ∧ r.2.mem ((c.tc : Thread nD τ).loc main_v104_4) = RESGm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (arr16 m c), (h c).2.2.2.2.1.trans (arr20 m c), (h c).2.2.2.2.2.2⟩) (Cert.Kernel3Ideal.Value.run_blocks m ρ)

end Cert.Kernel3Ideal.Run
end
-- ==== Proof.RefPre.lean ====
/-
  The reference of the layer's first call: its run, and its two results row by row.
-/
module

public import proofs.«01_k».proof.Defs
public import proofs.«01_k».proof.Proof.Gen.Reference3Ideal.Run
public import proofs.«01_k».proof.Proof.RefPost
public import proofs.«01_k».proof.Proof.PreMath
public import Idealize.ShloMosaic.Lib.Pipeline.ValueKit
public import Idealize.ShloMosaic.Lib.Quiescent

@[expose] public section
set_option maxRecDepth 16384
set_option maxHeartbeats 1600000
noncomputable section
namespace Cert.Reference3Ideal.Run
open Cert.Reference3Ideal Cert.Reference3Ideal.Gen Cert.Reference3Ideal.Value
open Idealize.ShloMosaic Idealize.ShloMosaic.TcCoe Idealize.ShloMosaic.Tactic
open Idealize.SL Idealize.SL.Sem
open Cert.Post
open Cert.Reference2Ideal.Run (RMS ST2 ST3 LOGI RMS_at ST2_at ST3_at LOGI_at)

theorem frame : @Cert.quiescent_Reference3Ideal Cert.Reference3Ideal.Gen.facts := fun m ρ _ =>
  (θ_run defs _ _).mono (fun r h => ⟨fun c => (h c).2.2, Idealize.ShloMosaic.sem_eq_zero_of_no_sems (by decide) r.2⟩) (Value.run (F := Ideal) m ρ)

/-- The rows after the feed-forward layer. -/
def REFX (x : FVec Ideal S4x4096x1024 .f32) (g : FVec Ideal S1x1024 .f32) (wu : FVec Ideal S1x1024x5632 .f32) (wd : FVec Ideal S1x2816x1024 .f32) : FVec Ideal S16384x1024 .f32 :=
  ST3 (shapeCast S16384x1024 x shapeCasts_S4x4096x1024_S16384x1024) (ST2 (shapeCast S16384x1024 x shapeCasts_S4x4096x1024_S16384x1024) g wu) wd

/-- The gate of such rows. -/
def REFG (x1 : FVec Ideal S16384x1024 .f32) (g : FVec Ideal S1x1024 .f32) (w : FVec Ideal S1x1024x3840 .f32) : FVec Ideal S16384x1024 .bf16 :=
  truncf .bf16 (LOGI bcast_S_S16384x1024 (extractStridedSlice S16384x1024 ![0, 1792] (Host.dotGeneral dot_S16384x1024_S1024x3840_S16384x3840_1_0_0_1_n_n none (RMS x1 (shapeCast S1024 g shapeCasts_S1x1024_S1024)) (shapeCast S1024x3840 w shapeCasts_S1x1024x3840_S1024x3840)) slices_S16384x3840_S16384x1024_0_1792)) bitsLt_bf16_f32

theorem REFX_at (x : FVec Ideal S4x4096x1024 .f32) (g : FVec Ideal S1x1024 .f32) (wu : FVec Ideal S1x1024x5632 .f32) (wd : FVec Ideal S1x2816x1024 .f32) (r : Fin 16384) (j : Fin 1024) :
    REFX x g wu wd (ix2 r j) = ffn (fun k => shapeCast S16384x1024 x shapeCasts_S4x4096x1024_S16384x1024 (ix2 r k)) (fun k => g (ix2 0 k)) (fun k j => wu (ix3 0 k j)) (fun k j => wd (ix3 0 k j)) j := by
  unfold REFX
  refine (ST3_at _ _ _ r j).trans ?_
  simp only [ST2_at]
  rfl

theorem REFG_at (x1 : FVec Ideal S16384x1024 .f32) (g : FVec Ideal S1x1024 .f32) (w : FVec Ideal S1x1024x3840 .f32) (r : Fin 16384) (j : Fin 1024) :
    REFG x1 g w (ix2 r j) = gate (fun k => x1 (ix2 r k)) (fun k => g (ix2 0 k)) (fun k j => w (ix3 0 k j)) j := by
  pointwise [REFG, RMS, rms, gate, dot, LOGI_at]

/-- The results in a memory's arguments. -/
def REFXm (m : (ℓ : Loc nD τ sig) → Buf (Elt Ideal) ℓ) (c : Dev nD) : FVec Ideal S16384x1024 .f32 :=
  REFX (m ((c.tc : Thread nD τ).loc main_arg0)) (m ((c.tc : Thread nD τ).loc main_arg1)) (m ((c.tc : Thread nD τ).loc main_arg2)) (m ((c.tc : Thread nD τ).loc main_arg3))
def REFGm (m : (ℓ : Loc nD τ sig) → Buf (Elt Ideal) ℓ) (c : Dev nD) : FVec Ideal S16384x1024 .bf16 :=
  REFG (REFXm m c) (m ((c.tc : Thread nD τ).loc main_arg4)) (m ((c.tc : Thread nD τ).loc main_arg5))

/-- The run: the results are those terms, the arguments are as they were. -/
theorem ref_run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v25) = REFXm m c
      ∧ r.2.mem ((c.tc : Thread nD τ).loc main_v49) = REFGm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans rfl, (h c).2.1.trans rfl, (h c).2.2⟩) (Value.run (F := Ideal) m ρ)

end Cert.Reference3Ideal.Run
end
-- ==== Proof.lean ====
/- The proof of the claim: its parts, put together from the modules beside this file. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.AnyRun
public import proofs.«01_k».proof.Proof.KernelAnyRun
public import proofs.«01_k».proof.Proof.RefRun
public import proofs.«01_k».proof.Proof.RefVal
public import proofs.«01_k».proof.Proof.Finite
public import proofs.«01_k».proof.Proof.PostVal
public import proofs.«01_k».proof.Proof.RefPost
public import proofs.«01_k».proof.Proof.PreVal
public import proofs.«01_k».proof.Proof.RefPre
public import Idealize.ShloMosaic.Adequacy
public import Idealize.ShloMosaic.Init

@[expose] public section

noncomputable section

namespace Cert.Proof

open Idealize.ShloMosaic Idealize.SL.Sem Cert.Kernel

/-- The reference's term is the kernel's attention, of real queries and keys. -/
theorem same (Q : FVec Ideal Cert.KernelIdeal.S4x4096x8x64 .f32) (K V : FVec Ideal Cert.KernelIdeal.S4x4096x2x64 .f32)
    (hQ : ∀ i, Cert.KernelIdeal.Val.IsR (Q i)) (hK : ∀ i, Cert.KernelIdeal.Val.IsR (K i)) :
    Cert.ReferenceIdeal.Run.REF Q K V = Cert.KernelIdeal.Run.RES Q K V := by
  funext i
  rw [eq_ix2 i]
  exact Cert.ReferenceIdeal.Run.REF_at Q K V hQ hK (i 0) (i 1)

/-- Kernel and reference end with the same result. -/
theorem values : @Cert.algebraic_KernelIdeal_ReferenceIdeal_pre_finite Cert.KernelIdeal.Gen.facts Cert.ReferenceIdeal.Gen.facts Cert.Pre_finite.Gen.facts :=
  fun m g m' g' hpre hagree => by
    have hr := Cert.Finite.of_pre m hpre
    refine ⟨fun c => Cert.KernelIdeal.Run.RES (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
      Cert.KernelIdeal.Run.val_run m g hr, (θ_run _ _ _).mono (fun r h c => ⟨(h c).1.trans ?_, (h c).2⟩) (Cert.ReferenceIdeal.Run.ref_run m' g')⟩
    rw [(hagree c).2.1, (hagree c).2.2.1, (hagree c).2.2.2]
    exact same _ _ _ (hr c).2.1 (hr c).2.2

/-- The second reference's term is the second kernel's result, row by row. -/
theorem same2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD) (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0) ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1) ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2) ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3) ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4) ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5) ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6) ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7) ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8) ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9) ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10) ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11) ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12) ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) : Cert.Reference2Ideal.Run.REFm m' c = Cert.Kernel2Ideal.Run.RESm m c := by
  obtain ⟨h0, h1, h2, h3, h4, h5, h6, h7, h8, h9, h10, h11, h12, h13⟩ := h
  rw [Cert.Reference2Ideal.Run.REFm, h0, h1, h2, h3, h4, h5, h6, h7, h8, h9, h10, h11, h12, h13]
  funext i
  rw [eq_ix2 i]
  exact Cert.Reference2Ideal.Run.REF_at _ _ _ _ _ _ _ _ _ _ _ _ _ _ (i 0) (i 1)

/-- The second kernel and its reference end with the same result. -/
theorem values2 : @Cert.algebraic_Kernel2Ideal_Reference2Ideal Cert.Kernel2Ideal.Gen.facts Cert.Reference2Ideal.Gen.facts :=
  fun m g m' g' _ hagree => ⟨fun c => Cert.Kernel2Ideal.Run.RESm m c, Cert.Kernel2Ideal.Run.val_run m g,
    (θ_run _ _ _).mono (fun r h c => ⟨(h c).1.trans (same2 m m' c (hagree c)), (h c).2⟩) (Cert.Reference2Ideal.Run.ref_run m' g')⟩

/-- The third reference's first term is the third kernel's first result, row by row. -/
theorem same3x (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Run.REFXm m' c = Cert.Kernel3Ideal.Run.RESXm m c := by
  rw [Cert.Reference3Ideal.Run.REFXm, h0, h1, h2, h3]
  funext i
  rw [eq_ix2 i]
  exact Cert.Reference3Ideal.Run.REFX_at _ _ _ _ (i 0) (i 1)

/-- Its second term is the third kernel's second result. -/
theorem same3g (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) :
    Cert.Reference3Ideal.Run.REFGm m' c = Cert.Kernel3Ideal.Run.RESGm m c := by
  rw [Cert.Reference3Ideal.Run.REFGm, same3x m m' c h0 h1 h2 h3, h4, h5]
  funext i
  rw [eq_ix2 i]
  exact Cert.Reference3Ideal.Run.REFG_at _ _ _ (i 0) (i 1)

/-- The third kernel and its reference end with the same results. -/
theorem values3 : @Cert.algebraic_Kernel3Ideal_Reference3Ideal Cert.Kernel3Ideal.Gen.facts Cert.Reference3Ideal.Gen.facts :=
  fun m g m' g' _ hagree => ⟨fun c => Cert.Kernel3Ideal.Run.RESXm m c, fun c => Cert.Kernel3Ideal.Run.RESGm m c, Cert.Kernel3Ideal.Run.val_run m g,
    (θ_run _ _ _).mono (fun r h c => by
      obtain ⟨h0, h1, h2, h3, h4, h5, -⟩ := hagree c
      exact ⟨(h c).1.trans (same3x m m' c h0 h1 h2 h3), (h c).2.1.trans (same3g m m' c h0 h1 h2 h3 h4 h5), (h c).2.2⟩)
      (Cert.Reference3Ideal.Run.ref_run m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m g _ => Cert.Kernel.Run.any_frame m g,
  fun m g _ => Cert.KernelIdeal.Run.any_frame m g,
  fun m g _ => Cert.KernelIdeal.Run.any_frame m g,
  fun m g _ => Cert.ReferenceIdeal.Run.frame m g trivial,
  fun m g _ => Cert.ReferenceIdeal.Run.frame m g trivial,
  fun m g _ => Cert.Kernel2.Gen.frame m g,
  fun m g _ => Cert.Kernel2Ideal.Gen.frame m g,
  fun m g _ => Cert.Reference2Ideal.Run.frame m g trivial,
  fun m g _ => Cert.Kernel3.Gen.frame m g,
  fun m g _ => Cert.Kernel3Ideal.Gen.frame m g,
  fun m g _ => Cert.Reference3Ideal.Run.frame m g trivial,
  IdealRules.named_const.statement Cert.KernelIdeal.κ "scale" .f32 0x3E38AA3B#32 (((8 * (Real.log 2))⁻¹ : ℝ) : EReal) rfl,
  values, trivial, values2, trivial, values3⟩

end Cert.Proof

end
